-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def preserves_Kernel_KernelIdeal : Prop :=
  IdealRules.named_const.Statement Cert.KernelIdeal.κ "sm_scale" .f32 0x3DD105EC#32 (((Real.sqrt 96)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v10) = v0 c
          ∧ r.2.mem ((c.tc : Thread Cert.MergeReferenceIdeal.nD Cert.MergeReferenceIdeal.τ).loc Cert.MergeReferenceIdeal.main_v24) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v74_0)) (v1 : (c : Dev Cert.ProjIdeal.nD) → Buf (Elt Ideal) ((c.tc : Thread Cert.ProjIdeal.nD Cert.ProjIdeal.τ).loc Cert.ProjIdeal.main_v74_1)) (v2 : (c : Dev Cert.ProjIdeal.nD) → Buf (Elt Ideal) ((c.tc : Thread Cert.ProjIdeal.nD Cert.ProjIdeal.τ).loc Cert.ProjIdeal.main_v74_2)) (v3 : (c : Dev Cert.ProjIdeal.nD) → Buf (Elt Ideal) ((c.tc : Thread Cert.ProjIdeal.nD Cert.ProjIdeal.τ).loc Cert.ProjIdeal.main_v74_3)) (v4 : (c : Dev Cert.ProjIdeal.nD) → Buf (Elt Ideal) ((c.tc : Thread Cert.ProjIdeal.nD Cert.ProjIdeal.τ).loc Cert.ProjIdeal.main_v74_4)) (v5 : (c : Dev Cert.ProjIdeal.nD) → Buf (Elt Ideal) ((c.tc : Thread Cert.ProjIdeal.nD Cert.ProjIdeal.τ).loc Cert.ProjIdeal.main_v74_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v74_0) = v0 c
          ∧ r.2.mem ((c.tc : Thread Cert.ProjIdeal.nD Cert.ProjIdeal.τ).loc Cert.ProjIdeal.main_v74_1) = v1 c
          ∧ r.2.mem ((c.tc : Thread Cert.ProjIdeal.nD Cert.ProjIdeal.τ).loc Cert.ProjIdeal.main_v74_2) = v2 c
          ∧ r.2.mem ((c.tc : Thread Cert.ProjIdeal.nD Cert.ProjIdeal.τ).loc Cert.ProjIdeal.main_v74_3) = v3 c
          ∧ r.2.mem ((c.tc : Thread Cert.ProjIdeal.nD Cert.ProjIdeal.τ).loc Cert.ProjIdeal.main_v74_4) = v4 c
          ∧ r.2.mem ((c.tc : Thread Cert.ProjIdeal.nD Cert.ProjIdeal.τ).loc Cert.ProjIdeal.main_v74_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v128) = v0 c
          ∧ r.2.mem ((c.tc : Thread Cert.ProjReferenceIdeal.nD Cert.ProjReferenceIdeal.τ).loc Cert.ProjReferenceIdeal.main_v129) = v1 c
          ∧ r.2.mem ((c.tc : Thread Cert.ProjReferenceIdeal.nD Cert.ProjReferenceIdeal.τ).loc Cert.ProjReferenceIdeal.main_v130) = v2 c
          ∧ r.2.mem ((c.tc : Thread Cert.ProjReferenceIdeal.nD Cert.ProjReferenceIdeal.τ).loc Cert.ProjReferenceIdeal.main_v131) = v3 c
          ∧ r.2.mem ((c.tc : Thread Cert.ProjReferenceIdeal.nD Cert.ProjReferenceIdeal.τ).loc Cert.ProjReferenceIdeal.main_v133) = v4 c
          ∧ r.2.mem ((c.tc : Thread Cert.ProjReferenceIdeal.nD Cert.ProjReferenceIdeal.τ).loc Cert.ProjReferenceIdeal.main_v135) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)) →
    ∃ (v0 : (c : Dev Cert.SampleIdeal.nD) → Buf (Elt Ideal) ((c.tc : Thread Cert.SampleIdeal.nD Cert.SampleIdeal.τ).loc Cert.SampleIdeal.main_v72_0)) (v1 : (c : Dev Cert.SampleIdeal.nD) → Buf (Elt Ideal) ((c.tc : Thread Cert.SampleIdeal.nD Cert.SampleIdeal.τ).loc Cert.SampleIdeal.main_v72_2)) (v2 : (c : Dev Cert.SampleIdeal.nD) → Buf (Elt Ideal) ((c.tc : Thread Cert.SampleIdeal.nD Cert.SampleIdeal.τ).loc Cert.SampleIdeal.main_v72_3)) (v3 : (c : Dev Cert.SampleIdeal.nD) → Buf (Elt Ideal) ((c.tc : Thread Cert.SampleIdeal.nD Cert.SampleIdeal.τ).loc Cert.SampleIdeal.main_v72_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v72_0) = v0 c
          ∧ r.2.mem ((c.tc : Thread Cert.SampleIdeal.nD Cert.SampleIdeal.τ).loc Cert.SampleIdeal.main_v72_2) = v1 c
          ∧ r.2.mem ((c.tc : Thread Cert.SampleIdeal.nD Cert.SampleIdeal.τ).loc Cert.SampleIdeal.main_v72_3) = v2 c
          ∧ r.2.mem ((c.tc : Thread Cert.SampleIdeal.nD Cert.SampleIdeal.τ).loc Cert.SampleIdeal.main_v72_1) = v3 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v127) = v0 c
          ∧ r.2.mem ((c.tc : Thread Cert.SampleReferenceIdeal.nD Cert.SampleReferenceIdeal.τ).loc Cert.SampleReferenceIdeal.main_v128) = v1 c
          ∧ r.2.mem ((c.tc : Thread Cert.SampleReferenceIdeal.nD Cert.SampleReferenceIdeal.τ).loc Cert.SampleReferenceIdeal.main_v129) = v2 c
          ∧ r.2.mem ((c.tc : Thread Cert.SampleReferenceIdeal.nD Cert.SampleReferenceIdeal.τ).loc Cert.SampleReferenceIdeal.main_v130) = v3 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hSample : Cert.Sample.Facts) (hSampleIdeal : Cert.SampleIdeal.Facts) (hSampleReferenceIdeal : Cert.SampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Sample_SampleIdeal
    ∧ algebraic_SampleIdeal_SampleReferenceIdeal (hSampleIdeal := hSampleIdeal) (hSampleReferenceIdeal := hSampleReferenceIdeal)
-- ==== Kernel.lean ====
abbrev S16384x1024 : Shape := ⟨2, ![16384, 1024]⟩
abbrev S16384x512 : Shape := ⟨2, ![16384, 512]⟩
abbrev S16x1024 : Shape := ⟨2, ![16, 1024]⟩
abbrev S16x512 : Shape := ⟨2, ![16, 512]⟩
abbrev S_ : Shape := ⟨0, ![]⟩
abbrev S112x1024 : Shape := ⟨2, ![112, 1024]⟩
abbrev S128x1024 : Shape := ⟨2, ![128, 1024]⟩
abbrev S112x512 : Shape := ⟨2, ![112, 512]⟩
abbrev S128x512 : Shape := ⟨2, ![128, 512]⟩
abbrev S256x256 : Shape := ⟨2, ![256, 256]⟩
abbrev S256x128 : Shape := ⟨2, ![256, 128]⟩
abbrev S128x256 : Shape := ⟨2, ![128, 256]⟩
abbrev S128x128 : Shape := ⟨2, ![128, 128]⟩
abbrev S2x256x1 : Shape := ⟨3, ![2, 256, 1]⟩
abbrev S2x256x64 : Shape := ⟨3, ![2, 256, 64]⟩
abbrev S256 : Shape := ⟨1, ![256]⟩
abbrev S256x1 : Shape := ⟨2, ![256, 1]⟩
abbrev S1x256x1 : Shape := ⟨3, ![1, 256, 1]⟩
abbrev S128x64 : Shape := ⟨2, ![128, 64]⟩
abbrev S256x64 : Shape := ⟨2, ![256, 64]⟩
abbrev S1x256x64 : Shape := ⟨3, ![1, 256, 64]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16x1024, .bf16⟩
  | .hbm, ⟨4, _⟩ => ⟨S16x512, .bf16⟩
  | .hbm, ⟨5, _⟩ => ⟨S_, .bf16⟩
  | .hbm, ⟨6, _⟩ => ⟨S112x1024, .bf16⟩
  | .hbm, ⟨7, _⟩ => ⟨S128x1024, .bf16⟩
  | .hbm, ⟨8, _⟩ => ⟨S_, .bf16⟩
  | .hbm, ⟨9, _⟩ => ⟨S112x512, .bf16⟩
  | .hbm, ⟨10, _⟩ => ⟨S128x512, .bf16⟩
  | .hbm, ⟨11, _⟩ => ⟨S16384x512, .bf16⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S128x256, .bf16⟩
  | .local _ .vmem, ⟨7, _⟩ => ⟨S128x256, .bf16⟩
  | .local _ .vmem, ⟨8, _⟩ => ⟨S128x128, .bf16⟩
  | .local _ .vmem, ⟨9, _⟩ => ⟨S128x128, .bf16⟩
  | .local _ .vmem, ⟨10, _⟩ => ⟨S256x128, .bf16⟩
  | .local _ .vmem, ⟨11, _⟩ => ⟨S256x128, .bf16⟩
  | .local _ .vmem, ⟨12, _⟩ => ⟨S2x256x1, .f32⟩
  | .local _ .vmem, ⟨13, _⟩ => ⟨S2x256x1, .f32⟩
  | .local _ .vmem, ⟨14, _⟩ => ⟨S2x256x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![8, 4, 8, 8], ![false, false, false, false]⟩

def k0_cond3 (i : grid0.Coords) : BitVec 1 :=
  let arg3 : BitVec 32 := BitVec.ofNat 32 (i 3).val
  let c7_i32 : BitVec 32 := 7#32
  let v6 : BitVec 1 := Scalar.cmpi .eq arg3 c7_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | "sm_scale" => some (((Real.sqrt 96)⁻¹ : ℝ) : EReal)
  | _ => none
-- ==== ReferenceIdeal.lean ====
abbrev S16384x1024 : Shape := ⟨2, ![16384, 1024]⟩
abbrev S16384x512 : Shape := ⟨2, ![16384, 512]⟩
abbrev S16x1024 : Shape := ⟨2, ![16, 1024]⟩
abbrev S16x512 : Shape := ⟨2, ![16, 512]⟩
abbrev S8x2048x8x128 : Shape := ⟨4, ![8, 2048, 8, 128]⟩
abbrev S16x8x128 : Shape := ⟨3, ![16, 8, 128]⟩
abbrev S1x16x8x128 : Shape := ⟨4, ![1, 16, 8, 128]⟩
abbrev S8x16x8x128 : Shape := ⟨4, ![8, 16, 8, 128]⟩
abbrev S8x2064x8x128 : Shape := ⟨4, ![8, 2064, 8, 128]⟩
abbrev S16x8x64 : Shape := ⟨3, ![16, 8, 64]⟩
abbrev S1x16x8x64 : Shape := ⟨4, ![1, 16, 8, 64]⟩
abbrev S8x16x8x64 : Shape := ⟨4, ![8, 16, 8, 64]⟩
abbrev S8x2048x8x64 : Shape := ⟨4, ![8, 2048, 8, 64]⟩
abbrev S8x2064x8x64 : Shape := ⟨4, ![8, 2064, 8, 64]⟩
abbrev S8x8x2048x2064 : Shape := ⟨4, ![8, 8, 2048, 2064]⟩
abbrev S_ : Shape := ⟨0, ![]⟩
abbrev S2048 : Shape := ⟨1, ![2048]⟩
abbrev S2064 : Shape := ⟨1, ![2064]⟩
abbrev S1x2064 : Shape := ⟨2, ![1, 2064]⟩
abbrev S2048x1 : Shape := ⟨2, ![2048, 1]⟩
abbrev S2048x2064 : Shape := ⟨2, ![2048, 2064]⟩
abbrev S8x8x2048 : Shape := ⟨3, ![8, 8, 2048]⟩
abbrev S8x8x2048x1 : Shape := ⟨4, ![8, 8, 2048, 1]⟩
abbrev S8x2048x8 : Shape := ⟨3, ![8, 2048, 8]⟩
abbrev S8x2048x8x1 : Shape := ⟨4, ![8, 2048, 8, 1]⟩
abbrev S8x8x64x2048 : Shape := ⟨4, ![8, 8, 64, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16x1024, .bf16⟩
  | .hbm, ⟨4, _⟩ => ⟨S16x512, .bf16⟩
  | .hbm, ⟨5, _⟩ => ⟨S8x2048x8x128, .f32⟩
  | .hbm, ⟨6, _⟩ => ⟨S16x1024, .f32⟩
  | .hbm, ⟨7, _⟩ => ⟨S16x8x128, .f32⟩
  | .hbm, ⟨8, _⟩ => ⟨S1x16x8x128, .f32⟩
  | .hbm, ⟨9, _⟩ => ⟨S8x16x8x128, .f32⟩
  | .hbm, ⟨10, _⟩ => ⟨S16384x1024, .f32⟩
  | .hbm, ⟨11, _⟩ => ⟨S8x2048x8x128, .f32⟩
  | .hbm, ⟨12, _⟩ => ⟨S8x2064x8x128, .f32⟩
  | .hbm, ⟨13, _⟩ => ⟨S16x512, .f32⟩
  | .hbm, ⟨14, _⟩ => ⟨S16x8x64, .f32⟩
  | .hbm, ⟨15, _⟩ => ⟨S1x16x8x64, .f32⟩
  | .hbm, ⟨16, _⟩ => ⟨S8x16x8x64, .f32⟩
  | .hbm, ⟨17, _⟩ => ⟨S16384x512, .f32⟩
  | .hbm, ⟨18, _⟩ => ⟨S8x2048x8x64, .f32⟩
  | .hbm, ⟨19, _⟩ => ⟨S8x2064x8x64, .f32⟩
  | .hbm, ⟨20, _⟩ => ⟨S8x8x2048x2064, .f32⟩
  | .hbm, ⟨21, _⟩ => ⟨S_, .f32⟩
  | .hbm, ⟨22, _⟩ => ⟨S_, .f32⟩
  | .hbm, ⟨23, _⟩ => ⟨S8x8x2048x2064, .f32⟩
  | .hbm, ⟨24, _⟩ => ⟨S8x8x2048x2064, .f32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2064, .i32⟩
  | .hbm, ⟨30, _⟩ => ⟨S1x2064, .i32⟩
  | .hbm, ⟨31, _⟩ => ⟨S2048x1, .i32⟩
  | .hbm, ⟨32, _⟩ => ⟨S2048x2064, .i32⟩
  | .hbm, ⟨33, _⟩ => ⟨S2048x2064, .i32⟩
  | .hbm, ⟨34, _⟩ => ⟨S2048x2064, .i1⟩
  | .hbm, ⟨35, _⟩ => ⟨S_, .f32⟩
  | .hbm, ⟨36, _⟩ => ⟨S_, .f32⟩
  | .hbm, ⟨37, _⟩ => ⟨S8x8x2048x2064, .i1⟩
  | .hbm, ⟨38, _⟩ => ⟨S8x8x2048x2064, .f32⟩
  | .hbm, ⟨39, _⟩ => ⟨S8x8x2048x2064, .f32⟩
  | .hbm, ⟨40, _⟩ => ⟨S_, .f32⟩
  | .hbm, ⟨41, _⟩ => ⟨S8x8x2048, .f32⟩
  | .hbm, ⟨42, _⟩ => ⟨S8x8x2048x1, .f32⟩
  | .hbm, ⟨43, _⟩ => ⟨S8x8x2048x2064, .f32⟩
  | .hbm, ⟨44, _⟩ => ⟨S8x8x2048x2064, .f32⟩
  | .hbm, ⟨45, _⟩ => ⟨S8x8x2048x2064, .f32⟩
  | .hbm, ⟨46, _⟩ => ⟨S_, .f32⟩
  | .hbm, ⟨47, _⟩ => ⟨S8x8x2048, .f32⟩
  | .hbm, ⟨48, _⟩ => ⟨S8x2048x8, .f32⟩
  | .hbm, ⟨49, _⟩ => ⟨S8x2048x8x1, .f32⟩
  | .hbm, ⟨50, _⟩ => ⟨S8x8x64x2048, .f32⟩
  | .hbm, ⟨51, _⟩ => ⟨S8x2048x8x64, .f32⟩
  | .hbm, ⟨52, _⟩ => ⟨S8x2048x8x64, .f32⟩
  | .hbm, ⟨53, _⟩ => ⟨S8x2048x8x64, .f32⟩
  | .hbm, ⟨54, _⟩ => ⟨S16384x512, .f32⟩
  | .hbm, ⟨55, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Ffn.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S16384x512, .f32⟩
  | .hbm, ⟨9, _⟩ => ⟨S16384x1024, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024 : Shape := ⟨2, ![1, 1024]⟩
abbrev S1x1024x4512 : Shape := ⟨3, ![1, 1024, 4512]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S1024 : Shape := ⟨1, ![1024]⟩
abbrev S1024x4512 : Shape := ⟨2, ![1024, 4512]⟩
abbrev S384 : Shape := ⟨1, ![384]⟩
abbrev S384x768 : Shape := ⟨2, ![384, 768]⟩
abbrev S256 : Shape := ⟨1, ![256]⟩
abbrev S256x512 : Shape := ⟨2, ![256, 512]⟩
abbrev S1024x384 : Shape := ⟨2, ![1024, 384]⟩
abbrev S1024x256 : Shape := ⟨2, ![1024, 256]⟩
abbrev S1024x32 : Shape := ⟨2, ![1024, 32]⟩
abbrev S1024x1792 : Shape := ⟨2, ![1024, 1792]⟩
abbrev S1024x2048 : Shape := ⟨2, ![1024, 2048]⟩
abbrev S_ : Shape := ⟨0, ![]⟩
abbrev S1024x128 : Shape := ⟨2, ![1024, 128]⟩
abbrev S1024x16 : Shape := ⟨2, ![1024, 16]⟩
abbrev S1024x4736 : Shape := ⟨2, ![1024, 4736]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S384x2048 : Shape := ⟨2, ![384, 2048]⟩
abbrev S256x8x64 : Shape := ⟨3, ![256, 8, 64]⟩
abbrev S256x8x128 : Shape := ⟨3, ![256, 8, 128]⟩
abbrev S256x1024 : Shape := ⟨2, ![256, 1024]⟩
abbrev S256x1536 : Shape := ⟨2, ![256, 1536]⟩
abbrev S16384x1024 : Shape := ⟨2, ![16384, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S16384x2048 : Shape := ⟨2, ![16384, 2048]⟩
abbrev S16384x1792 : Shape := ⟨2, ![16384, 1792]⟩
abbrev S16384x288 : Shape := ⟨2, ![16384, 288]⟩
abbrev S16384x512 : Shape := ⟨2, ![16384, 512]⟩
abbrev S256x128 : Shape := ⟨2, ![256, 128]⟩
abbrev S256x2048 : Shape := ⟨2, ![256, 2048]⟩
abbrev S256x1792 : Shape := ⟨2, ![256, 1792]⟩
abbrev S256x288 : Shape := ⟨2, ![256, 288]⟩
abbrev S256x1 : Shape := ⟨2, ![256, 1]⟩
abbrev S1024x512 : Shape := ⟨2, ![1024, 512]⟩
abbrev S256x256 : Shape := ⟨2, ![256, 256]⟩
abbrev S256x384 : Shape := ⟨2, ![256, 384]⟩
abbrev S384x128 : Shape := ⟨2, ![384, 128]⟩
abbrev S256x32 : Shape := ⟨2, ![256, 32]⟩

abbrev nBuf : Space → Nat
  | .hbm => 100
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4512, .f32⟩
  | .hbm, ⟨3, _⟩ => ⟨S1x384, .f32⟩
  | .hbm, ⟨4, _⟩ => ⟨S1x384x768, .f32⟩
  | .hbm, ⟨5, _⟩ => ⟨S1x256, .f32⟩
  | .hbm, ⟨6, _⟩ => ⟨S1x256x512, .f32⟩
  | .hbm, ⟨7, _⟩ => ⟨S1x256x512, .f32⟩
  | .hbm, ⟨8, _⟩ => ⟨S1024, .f32⟩
  | .hbm, ⟨9, _⟩ => ⟨S1024x4512, .f32⟩
  | .hbm, ⟨10, _⟩ => ⟨S384, .f32⟩
  | .hbm, ⟨11, _⟩ => ⟨S384x768, .f32⟩
  | .hbm, ⟨12, _⟩ => ⟨S256, .f32⟩
  | .hbm, ⟨13, _⟩ => ⟨S256x512, .f32⟩
  | .hbm, ⟨14, _⟩ => ⟨S256x512, .f32⟩
  | .hbm, ⟨15, _⟩ => ⟨S1024x384, .f32⟩
  | .hbm, ⟨16, _⟩ => ⟨S1024x256, .f32⟩
  | .hbm, ⟨17, _⟩ => ⟨S1024x32, .f32⟩
  | .hbm, ⟨18, _⟩ => ⟨S1024x1792, .f32⟩
  | .hbm, ⟨19, _⟩ => ⟨S1024x2048, .f32⟩
  | .hbm, ⟨20, _⟩ => ⟨S_, .f32⟩
  | .hbm, ⟨21, _⟩ => ⟨S1024x32, .f32⟩
  | .hbm, ⟨22, _⟩ => ⟨S1024x128, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1024x128, .f32⟩
  | .hbm, ⟨27, _⟩ => ⟨S1024x4736, .f32⟩
  | .hbm, ⟨28, _⟩ => ⟨S1024x4736, .bf16⟩
  | .hbm, ⟨29, _⟩ => ⟨S384x8x96, .f32⟩
  | .hbm, ⟨30, _⟩ => ⟨S_, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S_, .f32⟩
  | .hbm, ⟨35, _⟩ => ⟨S384x8x64, .f32⟩
  | .hbm, ⟨36, _⟩ => ⟨S384x8x32, .f32⟩
  | .hbm, ⟨37, _⟩ => ⟨S384x8x16, .f32⟩
  | .hbm, ⟨38, _⟩ => ⟨S384x8x16, .f32⟩
  | .hbm, ⟨39, _⟩ => ⟨S384x8x32, .f32⟩
  | .hbm, ⟨40, _⟩ => ⟨S384x8x128, .f32⟩
  | .hbm, ⟨41, _⟩ => ⟨S384x1024, .f32⟩
  | .hbm, ⟨42, _⟩ => ⟨S384x2048, .f32⟩
  | .hbm, ⟨43, _⟩ => ⟨S384x2048, .bf16⟩
  | .hbm, ⟨44, _⟩ => ⟨S256x8x64, .f32⟩
  | .hbm, ⟨45, _⟩ => ⟨S_, .f32⟩
  | .hbm, ⟨46, _⟩ => ⟨S256x8x64, .f32⟩
  | .hbm, ⟨47, _⟩ => ⟨S256x8x128, .f32⟩
  | .hbm, ⟨48, _⟩ => ⟨S256x1024, .f32⟩
  | .hbm, ⟨49, _⟩ => ⟨S256x1536, .f32⟩
  | .hbm, ⟨50, _⟩ => ⟨S256x1536, .bf16⟩
  | .hbm, ⟨51, _⟩ => ⟨S1x1024, .f32⟩
  | .hbm, ⟨52, _⟩ => ⟨S1x384, .f32⟩
  | .hbm, ⟨53, _⟩ => ⟨S1x256, .f32⟩
  | .hbm, ⟨54, _⟩ => ⟨S16384x1024, .f32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S2048, .f32⟩
  | .hbm, ⟨74, _⟩ => ⟨S2048x1, .f32⟩
  | .hbm, ⟨75, _⟩ => ⟨S1x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x32, .f32⟩
  | .hbm, ⟨82, _⟩ => ⟨S2048x16, .f32⟩
  | .hbm, ⟨83, _⟩ => ⟨S2048x32, .f32⟩
  | .hbm, ⟨84, _⟩ => ⟨S_, .f32⟩
  | .hbm, ⟨85, _⟩ => ⟨S2048x32, .f32⟩
  | .hbm, ⟨86, _⟩ => ⟨S_, .f32⟩
  | .hbm, ⟨87, _⟩ => ⟨S2048x64, .f32⟩
  | .hbm, ⟨88, _⟩ => ⟨S2048x128, .f32⟩
  | .hbm, ⟨89, _⟩ => ⟨S_, .f32⟩
  | .hbm, ⟨90, _⟩ => ⟨S2048x64, .f32⟩
  | .hbm, ⟨91, _⟩ => ⟨S2048x128, .f32⟩
  | .hbm, ⟨92, _⟩ => ⟨S2048x128, .f32⟩
  | .hbm, ⟨93, _⟩ => ⟨S2048x128, .f32⟩
  | .hbm, ⟨94, _⟩ => ⟨S16384x2048, .f32⟩
  | .hbm, ⟨95, _⟩ => ⟨S16384x1792, .f32⟩
  | .hbm, ⟨96, _⟩ => ⟨S16384x1024, .f32⟩
  | .hbm, ⟨97, _⟩ => ⟨S16384x288, .f32⟩
  | .hbm, ⟨98, _⟩ => ⟨S16384x1024, .bf16⟩
  | .hbm, ⟨99, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S1x384, .f32⟩
  | .local _ .vmem, ⟨5, _⟩ => ⟨S384x2048, .bf16⟩
  | .local _ .vmem, ⟨6, _⟩ => ⟨S1x256, .f32⟩
  | .local _ .vmem, ⟨7, _⟩ => ⟨S256x1536, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x2048, .f32⟩
  | .local _ .vmem, ⟨17, _⟩ => ⟨S256x2048, .f32⟩
  | .local _ .vmem, ⟨18, _⟩ => ⟨S256x1792, .f32⟩
  | .local _ .vmem, ⟨19, _⟩ => ⟨S256x1792, .f32⟩
  | .local _ .vmem, ⟨20, _⟩ => ⟨S256x1024, .f32⟩
  | .local _ .vmem, ⟨21, _⟩ => ⟨S256x1024, .f32⟩
  | .local _ .vmem, ⟨22, _⟩ => ⟨S256x288, .f32⟩
  | .local _ .vmem, ⟨23, _⟩ => ⟨S256x288, .f32⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74_0 : Ref sig .tc := ⟨.hbm, 94, rfl⟩
abbrev main_v74_1 : Ref sig .tc := ⟨.hbm, 95, rfl⟩
abbrev main_v74_2 : Ref sig .tc := ⟨.hbm, 96, rfl⟩
abbrev main_v74_3 : Ref sig .tc := ⟨.hbm, 97, rfl⟩
abbrev main_v74_4 : Ref sig .tc := ⟨.hbm, 98, rfl⟩
abbrev main_v74_5 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1792 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x288 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjReferenceIdeal.lean ====
abbrev S8x2048x1024 : Shape := ⟨3, ![8, 2048, 1024]⟩
abbrev S1x1024 : Shape := ⟨2, ![1, 1024]⟩
abbrev S1x1024x4512 : Shape := ⟨3, ![1, 1024, 4512]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S2048 : Shape := ⟨1, ![2048]⟩
abbrev S_ : Shape := ⟨0, ![]⟩
abbrev S1024 : Shape := ⟨1, ![1024]⟩
abbrev S1024x4512 : Shape := ⟨2, ![1024, 4512]⟩
abbrev S384 : Shape := ⟨1, ![384]⟩
abbrev S384x768 : Shape := ⟨2, ![384, 768]⟩
abbrev S256 : Shape := ⟨1, ![256]⟩
abbrev S256x512 : Shape := ⟨2, ![256, 512]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4512 : Shape := ⟨3, ![8, 2048, 4512]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x1792 : Shape := ⟨3, ![8, 2048, 1792]⟩
abbrev S8x2048x2048 : Shape := ⟨3, ![8, 2048, 2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x1x384 : Shape := ⟨3, ![1, 1, 384]⟩
abbrev S8x2048x768 : Shape := ⟨3, ![8, 2048, 768]⟩
abbrev S8x2048x8x96 : Shape := ⟨4, ![8, 2048, 8, 96]⟩
abbrev S8x2048x8x32 : Shape := ⟨4, ![8, 2048, 8, 32]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S1x1x256 : Shape := ⟨3, ![1, 1, 256]⟩
abbrev S8x2048x16 : Shape := ⟨3, ![8, 2048, 16]⟩
abbrev S1x2048x16 : Shape := ⟨3, ![1, 2048, 16]⟩
abbrev S8x2048x288 : Shape := ⟨3, ![8, 2048, 288]⟩
abbrev S8x2048x512 : Shape := ⟨3, ![8, 2048, 512]⟩
abbrev S8x2048x8x64 : Shape := ⟨4, ![8, 2048, 8, 64]⟩
abbrev S8x2048x8x128 : Shape := ⟨4, ![8, 2048, 8, 128]⟩
abbrev S8x2048x1x32 : Shape := ⟨4, ![8, 2048, 1, 32]⟩
abbrev S16384x2048 : Shape := ⟨2, ![16384, 2048]⟩
abbrev S16384x1792 : Shape := ⟨2, ![16384, 1792]⟩
abbrev S16384x1024 : Shape := ⟨2, ![16384, 1024]⟩
abbrev S16384x288 : Shape := ⟨2, ![16384, 288]⟩
abbrev S16384x512 : Shape := ⟨2, ![16384, 512]⟩

abbrev nBuf : Space → Nat
  | .hbm => 161
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x4512, .f32⟩
  | 3 => ⟨S1x384, .f32⟩
  | 4 => ⟨S1x384x768, .f32⟩
  | 5 => ⟨S1x256, .f32⟩
  | 6 => ⟨S1x256x512, .f32⟩
  | 7 => ⟨S1x256x512, .f32⟩
  | 8 => ⟨S2048, .i32⟩
  | 9 => ⟨S_, .i32⟩
  | 10 => ⟨S2048, .i32⟩
  | 11 => ⟨S2048, .i32⟩
  | 12 => ⟨S1024, .f32⟩
  | 13 => ⟨S1024x4512, .f32⟩
  | 14 => ⟨S384, .f32⟩
  | 15 => ⟨S384x768, .f32⟩
  | 16 => ⟨S256, .f32⟩
  | 17 => ⟨S256x512, .f32⟩
  | 18 => ⟨S256x512, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S8x2048x4512, .f32⟩
  | 36 => ⟨S8x2048x384, .f32⟩
  | 37 => ⟨S8x2048x256, .f32⟩
  | 38 => ⟨S8x2048x32, .f32⟩
  | 39 => ⟨S8x2048x1792, .f32⟩
  | 40 => ⟨S8x2048x2048, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S2048, .f32⟩
  | 56 => ⟨S2048x1, .f32⟩
  | 57 => ⟨S1x16, .f32⟩
  | 58 => ⟨S2048x16, .f32⟩
  | 59 => ⟨S2048x16, .f32⟩
  | 60 => ⟨S2048x16, .f32⟩
  | 61 => ⟨S2048x16, .f32⟩
  | 62 => ⟨S2048x16, .f32⟩
  | 63 => ⟨S8x2048x384, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x384, .f32⟩
  | 75 => ⟨S8x2048x384, .f32⟩
  | 76 => ⟨S1x1x384, .f32⟩
  | 77 => ⟨S8x2048x384, .f32⟩
  | 78 => ⟨S8x2048x384, .f32⟩
  | 79 => ⟨S8x2048x768, .f32⟩
  | 80 => ⟨S8x2048x8x96, .f32⟩
  | 81 => ⟨S8x2048x8x32, .f32⟩
  | 82 => ⟨S2048x1x16, .f32⟩
  | 83 => ⟨S2048x1x16, .f32⟩
  | 84 => ⟨S8x2048x8x16, .f32⟩
  | 85 => ⟨S8x2048x8x16, .f32⟩
  | 86 => ⟨S1x2048x1x16, .f32⟩
  | 87 => ⟨S8x2048x8x16, .f32⟩
  | 88 => ⟨S8x2048x8x16, .f32⟩
  | 89 => ⟨S1x2048x1x16, .f32⟩
  | 90 => ⟨S8x2048x8x16, .f32⟩
  | 91 => ⟨S8x2048x8x16, .f32⟩
  | 92 => ⟨S8x2048x8x16, .f32⟩
  | 93 => ⟨S1x2048x1x16, .f32⟩
  | 94 => ⟨S8x2048x8x16, .f32⟩
  | 95 => ⟨S8x2048x8x16, .f32⟩
  | 96 => ⟨S1x2048x1x16, .f32⟩
  | 97 => ⟨S8x2048x8x16, .f32⟩
  | 98 => ⟨S8x2048x8x16, .f32⟩
  | 99 => ⟨S8x2048x8x16, .f32⟩
  | 100 => ⟨S8x2048x8x32, .f32⟩
  | 101 => ⟨S8x2048x256, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S_, .f32⟩
  | 109 => ⟨S8x2048x1, .f32⟩
  | 110 => ⟨S8x2048x1, .f32⟩
  | 111 => ⟨S8x2048x1, .f32⟩
  | 112 => ⟨S8x2048x256, .f32⟩
  | 113 => ⟨S8x2048x256, .f32⟩
  | 114 => ⟨S1x1x256, .f32⟩
  | 115 => ⟨S8x2048x256, .f32⟩
  | 116 => ⟨S8x2048x256, .f32⟩
  | 117 => ⟨S8x2048x16, .f32⟩
  | 118 => ⟨S8x2048x16, .f32⟩
  | 119 => ⟨S1x2048x16, .f32⟩
  | 120 => ⟨S8x2048x16, .f32⟩
  | 121 => ⟨S8x2048x16, .f32⟩
  | 122 => ⟨S1x2048x16, .f32⟩
  | 123 => ⟨S8x2048x16, .f32⟩
  | 124 => ⟨S8x2048x16, .f32⟩
  | 125 => ⟨S8x2048x16, .f32⟩
  | 126 => ⟨S1x2048x16, .f32⟩
  | 127 => ⟨S8x2048x16, .f32⟩
  | _ => ⟨S8x2048x1024, .f32⟩

abbrev hbmTy0_1 (i : Nat) : BufTy := match i % 128 with
  | 0 => ⟨S8x2048x16, .f32⟩
  | 1 => ⟨S1x2048x16, .f32⟩
  | 2 => ⟨S8x2048x16, .f32⟩
  | 3 => ⟨S8x2048x16, .f32⟩
  | 4 => ⟨S8x2048x16, .f32⟩
  | 5 => ⟨S8x2048x32, .f32⟩
  | 6 => ⟨S8x2048x288, .f32⟩
  | 7 => ⟨S8x2048x512, .f32⟩
  | 8 => ⟨S8x2048x8x64, .f32⟩
  | 9 => ⟨S8x2048x512, .f32⟩
  | 10 => ⟨S_, .f32⟩
  | 11 => ⟨S8x2048x8x32, .f32⟩
  | 12 => ⟨S8x2048x8x64, .f32⟩
  | 13 => ⟨S8x2048x8x128, .f32⟩
  | 14 => ⟨S8x2048x1x32, .f32⟩
  | 15 => ⟨S8x2048x8x32, .f32⟩
  | 16 => ⟨S8x2048x8x128, .f32⟩
  | 17 => ⟨S8x2048x2048, .f32⟩
  | 18 => ⟨S8x2048x2048, .f32⟩
  | 19 => ⟨S_, .f32⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S16384x2048, .f32⟩
  | 26 => ⟨S16384x1792, .f32⟩
  | 27 => ⟨S16384x1024, .f32⟩
  | 28 => ⟨S16384x288, .f32⟩
  | 29 => ⟨S16384x1024, .f32⟩
  | 30 => ⟨S16384x1024, .bf16⟩
  | 31 => ⟨S16384x512, .f32⟩
  | 32 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_12 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_13 : Ref sig .tc := ⟨.hbm, 147, rfl⟩
abbrev main_v124 : Ref sig .tc := ⟨.hbm, 148, rfl⟩
abbrev main_v125 : Ref sig .tc := ⟨.hbm, 149, rfl⟩
abbrev main_cst_14 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩

abbrev nD : Nat := 1
abbrev τ : Topo := Topo.v7x

variable {F : FTy → Type} [FloatOps F]
-- ==== Sample.lean ====
abbrev S128x1x1024 : Shape := ⟨3, ![128, 1, 1024]⟩
abbrev S1x1024 : Shape := ⟨2, ![1, 1024]⟩
abbrev S1x1024x4512 : Shape := ⟨3, ![1, 1024, 4512]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S1024 : Shape := ⟨1, ![1024]⟩
abbrev S1024x4512 : Shape := ⟨2, ![1024, 4512]⟩
abbrev S384 : Shape := ⟨1, ![384]⟩
abbrev S384x768 : Shape := ⟨2, ![384, 768]⟩
abbrev S256 : Shape := ⟨1, ![256]⟩
abbrev S256x512 : Shape := ⟨2, ![256, 512]⟩
abbrev S1024x384 : Shape := ⟨2, ![1024, 384]⟩
abbrev S1024x256 : Shape := ⟨2, ![1024, 256]⟩
abbrev S1024x32 : Shape := ⟨2, ![1024, 32]⟩
abbrev S1024x1792 : Shape := ⟨2, ![1024, 1792]⟩
abbrev S1024x2048 : Shape := ⟨2, ![1024, 2048]⟩
abbrev S_ : Shape := ⟨0, ![]⟩
abbrev S1024x128 : Shape := ⟨2, ![1024, 128]⟩
abbrev S1024x16 : Shape := ⟨2, ![1024, 16]⟩
abbrev S1024x4736 : Shape := ⟨2, ![1024, 4736]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S384x2048 : Shape := ⟨2, ![384, 2048]⟩
abbrev S256x8x64 : Shape := ⟨3, ![256, 8, 64]⟩
abbrev S256x8x128 : Shape := ⟨3, ![256, 8, 128]⟩
abbrev S256x1024 : Shape := ⟨2, ![256, 1024]⟩
abbrev S256x1536 : Shape := ⟨2, ![256, 1536]⟩
abbrev S128x1024 : Shape := ⟨2, ![128, 1024]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x32 : Shape := ⟨2, ![128, 32]⟩
abbrev S128x64 : Shape := ⟨2, ![128, 64]⟩
abbrev S128x128 : Shape := ⟨2, ![128, 128]⟩
abbrev S128x2048 : Shape := ⟨2, ![128, 2048]⟩
abbrev S128x1792 : Shape := ⟨2, ![128, 1792]⟩
abbrev S128x288 : Shape := ⟨2, ![128, 288]⟩
abbrev S128x512 : Shape := ⟨2, ![128, 512]⟩
abbrev S1024x512 : Shape := ⟨2, ![1024, 512]⟩
abbrev S128x256 : Shape := ⟨2, ![128, 256]⟩
abbrev S128x384 : Shape := ⟨2, ![128, 384]⟩
abbrev S384x128 : Shape := ⟨2, ![384, 128]⟩
abbrev S256x128 : Shape := ⟨2, ![256, 128]⟩

abbrev nBuf : Space → Nat
  | .hbm => 98
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x4512, .f32⟩
  | .hbm, ⟨3, _⟩ => ⟨S1x384, .f32⟩
  | .hbm, ⟨4, _⟩ => ⟨S1x384x768, .f32⟩
  | .hbm, ⟨5, _⟩ => ⟨S1x256, .f32⟩
  | .hbm, ⟨6, _⟩ => ⟨S1x256x512, .f32⟩
  | .hbm, ⟨7, _⟩ => ⟨S1x256x512, .f32⟩
  | .hbm, ⟨8, _⟩ => ⟨S1024, .f32⟩
  | .hbm, ⟨9, _⟩ => ⟨S1024x4512, .f32⟩
  | .hbm, ⟨10, _⟩ => ⟨S384, .f32⟩
  | .hbm, ⟨11, _⟩ => ⟨S384x768, .f32⟩
  | .hbm, ⟨12, _⟩ => ⟨S256, .f32⟩
  | .hbm, ⟨13, _⟩ => ⟨S256x512, .f32⟩
  | .hbm, ⟨14, _⟩ => ⟨S256x512, .f32⟩
  | .hbm, ⟨15, _⟩ => ⟨S1024x384, .f32⟩
  | .hbm, ⟨16, _⟩ => ⟨S1024x256, .f32⟩
  | .hbm, ⟨17, _⟩ => ⟨S1024x32, .f32⟩
  | .hbm, ⟨18, _⟩ => ⟨S1024x1792, .f32⟩
  | .hbm, ⟨19, _⟩ => ⟨S1024x2048, .f32⟩
  | .hbm, ⟨20, _⟩ => ⟨S_, .f32⟩
  | .hbm, ⟨21, _⟩ => ⟨S1024x32, .f32⟩
  | .hbm, ⟨22, _⟩ => ⟨S1024x128, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1024x128, .f32⟩
  | .hbm, ⟨27, _⟩ => ⟨S1024x4736, .f32⟩
  | .hbm, ⟨28, _⟩ => ⟨S1024x4736, .bf16⟩
  | .hbm, ⟨29, _⟩ => ⟨S384x8x96, .f32⟩
  | .hbm, ⟨30, _⟩ => ⟨S_, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S_, .f32⟩
  | .hbm, ⟨35, _⟩ => ⟨S384x8x64, .f32⟩
  | .hbm, ⟨36, _⟩ => ⟨S384x8x32, .f32⟩
  | .hbm, ⟨37, _⟩ => ⟨S384x8x16, .f32⟩
  | .hbm, ⟨38, _⟩ => ⟨S384x8x16, .f32⟩
  | .hbm, ⟨39, _⟩ => ⟨S384x8x32, .f32⟩
  | .hbm, ⟨40, _⟩ => ⟨S384x8x128, .f32⟩
  | .hbm, ⟨41, _⟩ => ⟨S384x1024, .f32⟩
  | .hbm, ⟨42, _⟩ => ⟨S384x2048, .f32⟩
  | .hbm, ⟨43, _⟩ => ⟨S384x2048, .bf16⟩
  | .hbm, ⟨44, _⟩ => ⟨S256x8x64, .f32⟩
  | .hbm, ⟨45, _⟩ => ⟨S_, .f32⟩
  | .hbm, ⟨46, _⟩ => ⟨S256x8x64, .f32⟩
  | .hbm, ⟨47, _⟩ => ⟨S256x8x128, .f32⟩
  | .hbm, ⟨48, _⟩ => ⟨S256x1024, .f32⟩
  | .hbm, ⟨49, _⟩ => ⟨S256x1536, .f32⟩
  | .hbm, ⟨50, _⟩ => ⟨S256x1536, .bf16⟩
  | .hbm, ⟨51, _⟩ => ⟨S1x1024, .f32⟩
  | .hbm, ⟨52, _⟩ => ⟨S1x384, .f32⟩
  | .hbm, ⟨53, _⟩ => ⟨S1x256, .f32⟩
  | .hbm, ⟨54, _⟩ => ⟨S128x1024, .f32⟩
  | .hbm, ⟨55, _⟩ => ⟨S_, .i32⟩
  | .hbm, ⟨56, _⟩ => ⟨S128, .i32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S128, .f32⟩
  | .hbm, ⟨72, _⟩ => ⟨S128x1, .f32⟩
  | .hbm, ⟨73, _⟩ => ⟨S1x16, .f32⟩
  | .hbm, ⟨74, _⟩ => ⟨S128x16, .f32⟩
  | .hbm, ⟨75, _⟩ => ⟨S128x16, .f32⟩
  | .hbm, ⟨76, _⟩ => ⟨S128x16, .f32⟩
  | .hbm, ⟨77, _⟩ => ⟨S128x16, .f32⟩
  | .hbm, ⟨78, _⟩ => ⟨S128x16, .f32⟩
  | .hbm, ⟨79, _⟩ => ⟨S128x32, .f32⟩
  | .hbm, ⟨80, _⟩ => ⟨S128x16, .f32⟩
  | .hbm, ⟨81, _⟩ => ⟨S128x32, .f32⟩
  | .hbm, ⟨82, _⟩ => ⟨S_, .f32⟩
  | .hbm, ⟨83, _⟩ => ⟨S128x32, .f32⟩
  | .hbm, ⟨84, _⟩ => ⟨S_, .f32⟩
  | .hbm, ⟨85, _⟩ => ⟨S128x64, .f32⟩
  | .hbm, ⟨86, _⟩ => ⟨S128x128, .f32⟩
  | .hbm, ⟨87, _⟩ => ⟨S_, .f32⟩
  | .hbm, ⟨88, _⟩ => ⟨S128x64, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S128x2048, .f32⟩
  | .hbm, ⟨93, _⟩ => ⟨S128x1792, .f32⟩
  | .hbm, ⟨94, _⟩ => ⟨S128x1024, .f32⟩
  | .hbm, ⟨95, _⟩ => ⟨S128x288, .f32⟩
  | .hbm, ⟨96, _⟩ => ⟨S128x1024, .bf16⟩
  | .hbm, ⟨97, _⟩ => ⟨S128x512, .bf16⟩
  | .local _ .vmem, ⟨0, _⟩ => ⟨S128x1024, .f32⟩
  | .local _ .vmem, ⟨1, _⟩ => ⟨S1x1024, .f32⟩
  | .local _ .vmem, ⟨2, _⟩ => ⟨S1024x4736, .bf16⟩
  | .local _ .vmem, ⟨3, _⟩ => ⟨S1x384, .f32⟩
  | .local _ .vmem, ⟨4, _⟩ => ⟨S384x2048, .bf16⟩
  | .local _ .vmem, ⟨5, _⟩ => ⟨S1x256, .f32⟩
  | .local _ .vmem, ⟨6, _⟩ => ⟨S256x1536, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x2048, .f32⟩
  | .local _ .vmem, ⟨12, _⟩ => ⟨S128x1792, .f32⟩
  | .local _ .vmem, ⟨13, _⟩ => ⟨S128x1024, .f32⟩
  | .local _ .vmem, ⟨14, _⟩ => ⟨S128x288, .f32⟩
  | .local _ .vmem, ⟨15, _⟩ => ⟨S128x1024, .bf16⟩
  | .local _ .vmem, ⟨16, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72_0 : Ref sig .tc := ⟨.hbm, 92, rfl⟩
abbrev main_v72_1 : Ref sig .tc := ⟨.hbm, 93, rfl⟩
abbrev main_v72_2 : Ref sig .tc := ⟨.hbm, 94, rfl⟩
abbrev main_v72_3 : Ref sig .tc := ⟨.hbm, 95, rfl⟩
abbrev main_v72_4 : Ref sig .tc := ⟨.hbm, 96, rfl⟩
abbrev main_v72_5 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1792 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x288 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== SampleReferenceIdeal.lean ====
abbrev S128x1x1024 : Shape := ⟨3, ![128, 1, 1024]⟩
abbrev S1x1024 : Shape := ⟨2, ![1, 1024]⟩
abbrev S1x1024x4512 : Shape := ⟨3, ![1, 1024, 4512]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S1 : Shape := ⟨1, ![1]⟩
abbrev S_ : Shape := ⟨0, ![]⟩
abbrev S1024 : Shape := ⟨1, ![1024]⟩
abbrev S1024x4512 : Shape := ⟨2, ![1024, 4512]⟩
abbrev S384 : Shape := ⟨1, ![384]⟩
abbrev S384x768 : Shape := ⟨2, ![384, 768]⟩
abbrev S256 : Shape := ⟨1, ![256]⟩
abbrev S256x512 : Shape := ⟨2, ![256, 512]⟩
abbrev S128x1 : Shape := ⟨2, ![128, 1]⟩
abbrev S128x1x1 : Shape := ⟨3, ![128, 1, 1]⟩
abbrev S1x1x1024 : Shape := ⟨3, ![1, 1, 1024]⟩
abbrev S128x1x4512 : Shape := ⟨3, ![128, 1, 4512]⟩
abbrev S128x1x384 : Shape := ⟨3, ![128, 1, 384]⟩
abbrev S128x1x256 : Shape := ⟨3, ![128, 1, 256]⟩
abbrev S128x1x32 : Shape := ⟨3, ![128, 1, 32]⟩
abbrev S128x1x1792 : Shape := ⟨3, ![128, 1, 1792]⟩
abbrev S128x1x2048 : Shape := ⟨3, ![128, 1, 2048]⟩
abbrev S16 : Shape := ⟨1, ![16]⟩
abbrev S1x1 : Shape := ⟨2, ![1, 1]⟩
abbrev S1x16 : Shape := ⟨2, ![1, 16]⟩
abbrev S1x1x384 : Shape := ⟨3, ![1, 1, 384]⟩
abbrev S128x1x768 : Shape := ⟨3, ![128, 1, 768]⟩
abbrev S128x1x8x96 : Shape := ⟨4, ![128, 1, 8, 96]⟩
abbrev S128x1x8x32 : Shape := ⟨4, ![128, 1, 8, 32]⟩
abbrev S1x1x16 : Shape := ⟨3, ![1, 1, 16]⟩
abbrev S128x1x8x16 : Shape := ⟨4, ![128, 1, 8, 16]⟩
abbrev S1x1x1x16 : Shape := ⟨4, ![1, 1, 1, 16]⟩
abbrev S1x1x256 : Shape := ⟨3, ![1, 1, 256]⟩
abbrev S128x1x16 : Shape := ⟨3, ![128, 1, 16]⟩
abbrev S128x1x288 : Shape := ⟨3, ![128, 1, 288]⟩
abbrev S128x1x512 : Shape := ⟨3, ![128, 1, 512]⟩
abbrev S128x1x8x64 : Shape := ⟨4, ![128, 1, 8, 64]⟩
abbrev S128x1x8x128 : Shape := ⟨4, ![128, 1, 8, 128]⟩
abbrev S128x1x1x32 : Shape := ⟨4, ![128, 1, 1, 32]⟩
abbrev S128x2048 : Shape := ⟨2, ![128, 2048]⟩
abbrev S128x1024 : Shape := ⟨2, ![128, 1024]⟩
abbrev S128x288 : Shape := ⟨2, ![128, 288]⟩
abbrev S128x1792 : Shape := ⟨2, ![128, 1792]⟩

abbrev nBuf : Space → Nat
  | .hbm => 156
  | .vmem => 0
  | .smem => 0
  | _ => 0

abbrev hbmTy0_0 (i : Nat) : BufTy := match i % 128 with
  | 0 => ⟨S128x1x1024, .f32⟩
  | 1 => ⟨S1x1024, .f32⟩
  | 2 => ⟨S1x1024x4512, .f32⟩
  | 3 => ⟨S1x384, .f32⟩
  | 4 => ⟨S1x384x768, .f32⟩
  | 5 => ⟨S1x256, .f32⟩
  | 6 => ⟨S1x256x512, .f32⟩
  | 7 => ⟨S1x256x512, .f32⟩
  | 8 => ⟨S1, .i32⟩
  | 9 => ⟨S_, .i32⟩
  | 10 => ⟨S1, .i32⟩
  | 11 => ⟨S1, .i32⟩
  | 12 => ⟨S1024, .f32⟩
  | 13 => ⟨S1024x4512, .f32⟩
  | 14 => ⟨S384, .f32⟩
  | 15 => ⟨S384x768, .f32⟩
  | 16 => ⟨S256, .f32⟩
  | 17 => ⟨S256x512, .f32⟩
  | 18 => ⟨S256x512, .f32⟩
  | 19 => ⟨S128x1x1024, .f32⟩
  | 20 => ⟨S_, .f32⟩
  | 21 => ⟨S128x1, .f32⟩
  | 22 => ⟨S128x1x1, .f32⟩
  | 23 => ⟨S_, .f32⟩
  | 24 => ⟨S128x1x1, .f32⟩
  | 25 => ⟨S128x1x1, .f32⟩
  | 26 => ⟨S_, .f32⟩
  | 27 => ⟨S128x1x1, .f32⟩
  | 28 => ⟨S128x1x1, .f32⟩
  | 29 => ⟨S128x1x1, .f32⟩
  | 30 => ⟨S128x1x1024, .f32⟩
  | 31 => ⟨S128x1x1024, .f32⟩
  | 32 => ⟨S1x1x1024, .f32⟩
  | 33 => ⟨S128x1x1024, .f32⟩
  | 34 => ⟨S128x1x1024, .f32⟩
  | 35 => ⟨S128x1x4512, .f32⟩
  | 36 => ⟨S128x1x384, .f32⟩
  | 37 => ⟨S128x1x256, .f32⟩
  | 38 => ⟨S128x1x32, .f32⟩
  | 39 => ⟨S128x1x1792, .f32⟩
  | 40 => ⟨S128x1x2048, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S1, .f32⟩
  | 56 => ⟨S1x1, .f32⟩
  | 57 => ⟨S1x16, .f32⟩
  | 58 => ⟨S1x16, .f32⟩
  | 59 => ⟨S1x16, .f32⟩
  | 60 => ⟨S1x16, .f32⟩
  | 61 => ⟨S1x16, .f32⟩
  | 62 => ⟨S128x1x384, .f32⟩
  | 63 => ⟨S_, .f32⟩
  | 64 => ⟨S128x1, .f32⟩
  | 65 => ⟨S128x1x1, .f32⟩
  | 66 => ⟨S_, .f32⟩
  | 67 => ⟨S128x1x1, .f32⟩
  | 68 => ⟨S128x1x1, .f32⟩
  | 69 => ⟨S_, .f32⟩
  | 70 => ⟨S128x1x1, .f32⟩
  | 71 => ⟨S128x1x1, .f32⟩
  | 72 => ⟨S128x1x1, .f32⟩
  | 73 => ⟨S128x1x384, .f32⟩
  | 74 => ⟨S128x1x384, .f32⟩
  | 75 => ⟨S1x1x384, .f32⟩
  | 76 => ⟨S128x1x384, .f32⟩
  | 77 => ⟨S128x1x384, .f32⟩
  | 78 => ⟨S128x1x768, .f32⟩
  | 79 => ⟨S128x1x8x96, .f32⟩
  | 80 => ⟨S128x1x8x32, .f32⟩
  | 81 => ⟨S1x1x16, .f32⟩
  | 82 => ⟨S1x1x16, .f32⟩
  | 83 => ⟨S128x1x8x16, .f32⟩
  | 84 => ⟨S128x1x8x16, .f32⟩
  | 85 => ⟨S1x1x1x16, .f32⟩
  | 86 => ⟨S128x1x8x16, .f32⟩
  | 87 => ⟨S128x1x8x16, .f32⟩
  | 88 => ⟨S1x1x1x16, .f32⟩
  | 89 => ⟨S128x1x8x16, .f32⟩
  | 90 => ⟨S128x1x8x16, .f32⟩
  | 91 => ⟨S128x1x8x16, .f32⟩
  | 92 => ⟨S1x1x1x16, .f32⟩
  | 93 => ⟨S128x1x8x16, .f32⟩
  | 94 => ⟨S128x1x8x16, .f32⟩
  | 95 => ⟨S1x1x1x16, .f32⟩
  | 96 => ⟨S128x1x8x16, .f32⟩
  | 97 => ⟨S128x1x8x16, .f32⟩
  | 98 => ⟨S128x1x8x16, .f32⟩
  | 99 => ⟨S128x1x8x32, .f32⟩
  | 100 => ⟨S128x1x256, .f32⟩
  | 101 => ⟨S_, .f32⟩
  | 102 => ⟨S128x1, .f32⟩
  | 103 => ⟨S128x1x1, .f32⟩
  | 104 => ⟨S_, .f32⟩
  | 105 => ⟨S128x1x1, .f32⟩
  | 106 => ⟨S128x1x1, .f32⟩
  | 107 => ⟨S_, .f32⟩
  | 108 => ⟨S128x1x1, .f32⟩
  | 109 => ⟨S128x1x1, .f32⟩
  | 110 => ⟨S128x1x1, .f32⟩
  | 111 => ⟨S128x1x256, .f32⟩
  | 112 => ⟨S128x1x256, .f32⟩
  | 113 => ⟨S1x1x256, .f32⟩
  | 114 => ⟨S128x1x256, .f32⟩
  | 115 => ⟨S128x1x256, .f32⟩
  | 116 => ⟨S128x1x16, .f32⟩
  | 117 => ⟨S128x1x16, .f32⟩
  | 118 => ⟨S1x1x16, .f32⟩
  | 119 => ⟨S128x1x16, .f32⟩
  | 120 => ⟨S128x1x16, .f32⟩
  | 121 => ⟨S1x1x16, .f32⟩
  | 122 => ⟨S128x1x16, .f32⟩
  | 123 => ⟨S128x1x16, .f32⟩
  | 124 => ⟨S128x1x16, .f32⟩
  | 125 => ⟨S1x1x16, .f32⟩
  | 126 => ⟨S128x1x16, .f32⟩
  | 127 => ⟨S128x1x16, .f32⟩
  | _ => ⟨S128x1x1024, .f32⟩

abbrev hbmTy0_1 (i : Nat) : BufTy := match i % 128 with
  | 0 => ⟨S1x1x16, .f32⟩
  | 1 => ⟨S128x1x16, .f32⟩
  | 2 => ⟨S128x1x16, .f32⟩
  | 3 => ⟨S128x1x16, .f32⟩
  | 4 => ⟨S128x1x32, .f32⟩
  | 5 => ⟨S128x1x288, .f32⟩
  | 6 => ⟨S128x1x512, .f32⟩
  | 7 => ⟨S128x1x8x64, .f32⟩
  | 8 => ⟨S128x1x512, .f32⟩
  | 9 => ⟨S_, .f32⟩
  | 10 => ⟨S128x1x8x32, .f32⟩
  | 11 => ⟨S128x1x8x64, .f32⟩
  | 12 => ⟨S128x1x8x128, .f32⟩
  | 13 => ⟨S128x1x1x32, .f32⟩
  | 14 => ⟨S128x1x8x32, .f32⟩
  | 15 => ⟨S128x1x8x128, .f32⟩
  | 16 => ⟨S128x1x2048, .f32⟩
  | 17 => ⟨S128x1x2048, .f32⟩
  | 18 => ⟨S_, .f32⟩
  | 19 => ⟨S128x1x2048, .f32⟩
  | 20 => ⟨S128x1x2048, .f32⟩
  | 21 => ⟨S_, .f32⟩
  | 22 => ⟨S128x1x2048, .f32⟩
  | 23 => ⟨S128x1x2048, .f32⟩
  | 24 => ⟨S128x2048, .f32⟩
  | 25 => ⟨S128x1024, .f32⟩
  | 26 => ⟨S128x288, .f32⟩
  | 27 => ⟨S128x1792, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_v83 : Ref sig .tc := ⟨.hbm, 103, rfl⟩
abbrev main_cst_10 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_12 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_13 : Ref sig .tc := ⟨.hbm, 146, rfl⟩
abbrev main_v123 : Ref sig .tc := ⟨.hbm, 147, rfl⟩
abbrev main_v124 : Ref sig .tc := ⟨.hbm, 148, rfl⟩
abbrev main_cst_14 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]
-- ==== Proof.Attn.Block.lean ====
/- What one grid point of the attention kernel computes, entry by entry.

   The payloads of the two heads are the same functions, so each fact is stated for the first head's and the
   second head's are shown to be it. -/
module

public import proofs.«01_k».proof.Proof.Gen.KernelIdeal.Skeleton
public import Idealize.ShloMosaic.Lib.Pipeline.ValueKit
public import Idealize.ShloMosaic.Lib.Pointwise
public import Idealize.ShloMosaic.Lib.WordCmp
public import Idealize.ShloMosaic.Lib.IdealHost

@[expose] public section

set_option maxRecDepth 16384

noncomputable section

open Idealize.ShloMosaic Idealize.ShloMosaic.TcCoe Idealize.SL.Sem

namespace Cert.KernelIdeal.Value

open Cert.KernelIdeal Cert.KernelIdeal.Gen

/-- The scale of the scores, `1/√96`. -/
abbrev scale : EReal := (((Real.sqrt 96)⁻¹ : ℝ) : EReal)

theorem named_scale : Named.named (F := Ideal) κ "sm_scale" (φ := .f32) 0x3DD105EC#32 = scale :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

/-- A maximum taken from `-∞` up is the supremum. -/
theorem fold_max {n : ℕ} (f : Fin n → EReal) :
    Finset.fold max (Ideal.ofBits .f32 0xFF800000#32) f Finset.univ = Finset.univ.sup f := by
  have h : Ideal.ofBits .f32 0xFF800000#32 = (⊥ : EReal) := by simp [Ideal.ofBits, Ideal.ieee]
  rw [h]; rfl

/-- The causal comparison of a key column with a query row, as words and as numbers. -/
theorem select_causal (i j : Fin 8) (r c : Fin 256) (x : EReal) :
    Scalar.select (IntOp.cmpi .sle (IntOp.addi (Scalar.muli (BitVec.ofNat 32 j.val) 256#32) (BitVec.ofNat 32 c.val))
        (IntOp.addi (Scalar.muli (BitVec.ofNat 32 i.val) 256#32) (BitVec.ofNat 32 r.val))) x (⊥ : EReal)
      = if j.val * 256 + c.val ≤ i.val * 256 + r.val then x else ⊥ := by
  have h : ∀ a : Fin 8, ∀ b : Fin 256, IntOp.addi (Scalar.muli (BitVec.ofNat 32 a.val) 256#32) (BitVec.ofNat 32 b.val)
      = BitVec.ofNat 32 (a.val * 256 + b.val) := by decide +kernel
  rw [h, h]
  word_cmp

/-- The comparison of a column of the meta block with the number of meta tokens. -/
theorem select_meta (c : Fin 128) (x : EReal) :
    Scalar.select (IntOp.cmpi .slt (BitVec.ofNat 32 c.val) 16#32) x (⊥ : EReal) = if c.val < 16 then x else ⊥ := by
  word_cmp

/-- The score of a prompt key against a query within a point's blocks. -/
def score (i j : Fin 8) (q : FVec Ideal S256x128 .f32) (k : FVec Ideal S256x128 .bf16) (r c : Fin 256) : EReal :=
  if j.val * 256 + c.val ≤ i.val * 256 + r.val then (∑ n : Fin 128, q (ix2 r n) * k (ix2 c n)) * scale else ⊥

/-- The score of a column of the meta block against a query. -/
def metaScore (q : FVec Ideal S256x128 .f32) (k : FVec Ideal S128x128 .bf16) (r : Fin 256) (c : Fin 128) : EReal :=
  if c.val < 16 then (∑ n : Fin 128, q (ix2 r n) * k (ix2 c n)) * scale else ⊥

section Update

variable (i j : Fin 8) (q : FVec Ideal S256x128 .f32) (k : FVec Ideal S256x128 .bf16)
  (mx l : FVec Ideal S1x256x1 .f32) (a : FVec Ideal S1x256x64 .f32) (v : FVec Ideal S256x64 .bf16)

/-- The new maximum of a row. -/
theorem max_at (r : Fin 256) :
    k0_pay20 (F := Ideal) (BitVec.ofNat 32 i.val) (BitVec.ofNat 32 j.val) q k mx (ix2 r 0)
      = max (mx (ix3 0 r 0)) (Finset.univ.sup (score i j q k r)) := by
  pointwise [k0_pay20, k0_pay19, k0_pay18, k0_pay17]
  simp only [named_scale, named_mask, select_causal, fold_max]
  rfl

/-- The factor that carries a row's sums to its new maximum. -/
theorem alpha_at (r : Fin 256) :
    k0_pay21 (F := Ideal) (BitVec.ofNat 32 i.val) (BitVec.ofNat 32 j.val) q k mx (ix2 r 0)
      = Ideal.exp (mx (ix3 0 r 0) - max (mx (ix3 0 r 0)) (Finset.univ.sup (score i j q k r))) := by
  rw [← max_at]
  pointwise [k0_pay21, k0_pay19]

/-- The weight of a key at the new maximum. -/
theorem weight_at (r c : Fin 256) :
    k0_pay22 (F := Ideal) (BitVec.ofNat 32 i.val) (BitVec.ofNat 32 j.val) q k mx (ix2 r c)
      = Ideal.exp (score i j q k r c - max (mx (ix3 0 r 0)) (Finset.univ.sup (score i j q k r))) := by
  rw [← max_at]
  pointwise [k0_pay22, k0_pay18, k0_pay17]
  simp only [named_scale, named_mask, select_causal]
  rfl

/-- The new maximum as stored. -/
theorem storedMax_at (r : Fin 256) :
    k0_pay25 (F := Ideal) (k0_pay20 (BitVec.ofNat 32 i.val) (BitVec.ofNat 32 j.val) q k mx) (ix3 0 r 0)
      = max (mx (ix3 0 r 0)) (Finset.univ.sup (score i j q k r)) := by
  rw [← max_at]
  pointwise [k0_pay25]

/-- The new sum of a row's weights. -/
theorem sum_at (r : Fin 256) :
    k0_pay23 (F := Ideal) (BitVec.ofNat 32 i.val) (BitVec.ofNat 32 j.val) q k mx l (ix3 0 r 0)
      = l (ix3 0 r 0) * Ideal.exp (mx (ix3 0 r 0) - max (mx (ix3 0 r 0)) (Finset.univ.sup (score i j q k r)))
        + ∑ c : Fin 256, Ideal.exp (score i j q k r c - max (mx (ix3 0 r 0)) (Finset.univ.sup (score i j q k r))) := by
  pointwise [k0_pay23]
  simp only [weight_at, alpha_at]

/-- The new weighted sum of a row's values. -/
theorem acc_at (r : Fin 256) (d : Fin 64) :
    k0_pay24 (F := Ideal) (k0_pay21 (BitVec.ofNat 32 i.val) (BitVec.ofNat 32 j.val) q k mx)
        (k0_pay22 (BitVec.ofNat 32 i.val) (BitVec.ofNat 32 j.val) q k mx) a v (ix3 0 r d)
      = a (ix3 0 r d) * Ideal.exp (mx (ix3 0 r 0) - max (mx (ix3 0 r 0)) (Finset.univ.sup (score i j q k r)))
        + ∑ c : Fin 256, Ideal.exp (score i j q k r c - max (mx (ix3 0 r 0)) (Finset.univ.sup (score i j q k r)))
            * v (ix2 c d) := by
  pointwise [k0_pay24]
  simp only [weight_at, alpha_at]

end Update

section Meta

variable (q : FVec Ideal S256x128 .f32) (k : FVec Ideal S128x128 .bf16) (v : FVec Ideal S128x64 .bf16)

/-- A row's maximum over the meta block. -/
theorem metaMax_at (r : Fin 256) :
    k0_pay12 (F := Ideal) q k (ix2 r 0) = Finset.univ.sup (metaScore q k r) := by
  pointwise [k0_pay12, k0_pay11]
  simp only [named_scale, named_mask, select_meta, fold_max]
  rfl

/-- The weight of a meta column. -/
theorem metaWeight_at (r : Fin 256) (c : Fin 128) :
    k0_pay13 (F := Ideal) q k (ix2 r c)
      = Ideal.exp (metaScore q k r c - Finset.univ.sup (metaScore q k r)) := by
  rw [← metaMax_at]
  pointwise [k0_pay13, k0_pay11]
  simp only [named_scale, named_mask, select_meta]
  rfl

/-- The first maximum as stored. -/
theorem metaStoredMax_at (r : Fin 256) :
    k0_pay14 (F := Ideal) q k (ix3 0 r 0) = Finset.univ.sup (metaScore q k r) := by
  rw [← metaMax_at]
  pointwise [k0_pay14]

/-- The first sum of weights. -/
theorem metaSum_at (r : Fin 256) :
    k0_pay15 (F := Ideal) q k (ix3 0 r 0)
      = ∑ c : Fin 128, Ideal.exp (metaScore q k r c - Finset.univ.sup (metaScore q k r)) := by
  pointwise [k0_pay15]
  simp only [metaWeight_at]

/-- The first weighted sum of values. -/
theorem metaAcc_at (r : Fin 256) (d : Fin 64) :
    k0_pay16 (F := Ideal) q k v (ix3 0 r d)
      = ∑ c : Fin 128, Ideal.exp (metaScore q k r c - Finset.univ.sup (metaScore q k r)) * v (ix2 c d) := by
  pointwise [k0_pay16]
  simp only [metaWeight_at]

/-! The second head's payloads are the first head's. -/

theorem second_metaMax :
    k0_pay4 (F := Ideal) (iota Kind.tc S256x128 32 [1] iota_S256x128_d1_w32) q k = k0_pay14 q k := rfl
theorem second_metaSum :
    k0_pay5 (F := Ideal) (iota Kind.tc S256x128 32 [1] iota_S256x128_d1_w32) q k = k0_pay15 q k := rfl
theorem second_metaAcc :
    k0_pay6 (F := Ideal) (iota Kind.tc S256x128 32 [1] iota_S256x128_d1_w32) q k v = k0_pay16 q k v := rfl

end Meta

/-- The stored block: each head's weighted sum over its sum of weights. -/
theorem out_at (a₀ a₁ : FVec Ideal S1x256x64 .f32) (l₀ l₁ : FVec Ideal S1x256x1 .f32) (r : Fin 256) (d : Fin 128) :
    k0_pay10 (F := Ideal) a₀ l₀ a₁ l₁ (ix2 r d)
      = if h : d.val < 64 then Ideal.div (a₀ (ix3 0 r ⟨d.val, h⟩)) (l₀ (ix3 0 r 0))
        else Ideal.div (a₁ (ix3 0 r ⟨d.val - 64, by omega⟩)) (l₁ (ix3 0 r 0)) := by
  pointwise [k0_pay10]

end Cert.KernelIdeal.Value

end
-- ==== Proof.Attn.Softmax.lean ====
/- The running softmax over the extended reals.

   A row of scores `S 0, S 1, …` with values `V 0, V 1, …` is summarised, over its first `n` keys, by
   the largest score `top S n` and by the weighted sum `acc S V n = ∑ exp (S k - top S n) * V k`
   (the sum of the weights being `acc S 1 n`). The summaries of `n + m` keys follow from those of the
   first `n` and from the next `m` scores, and keys whose score is `⊥` change nothing. -/
module

public import Idealize.ShloMosaic.Lib.Pointwise

@[expose] public section

noncomputable section

namespace Cert.Attn

open Idealize.ShloMosaic

/-- An exponential is nonnegative. -/
theorem exp_nonneg (x : EReal) : 0 ≤ Ideal.exp x := by
  induction x with
  | bot => simp
  | top => simp
  | coe r => simpa using (Real.exp_pos r).le

/-- The exponential of a difference `a - b` with `a ≤ b` is not `⊤`. -/
theorem exp_sub_ne_top {a b : EReal} (h : a ≤ b) : Ideal.exp (a - b) ≠ ⊤ := by
  induction b with
  | bot => obtain rfl := le_bot_iff.mp h; simp
  | top => simp
  | coe r =>
    induction a with
    | bot => simp
    | top => exact absurd h (by simp)
    | coe s => rw [← EReal.coe_sub, Ideal.exp_coe]; exact EReal.coe_ne_top _

/-- Rescaling a weight from the maximum `b` to a larger maximum `c`. -/
theorem exp_rescale {a b c : EReal} (h : a ≤ b) (h' : b ≤ c) :
    Ideal.exp (a - b) * Ideal.exp (b - c) = Ideal.exp (a - c) := by
  induction c with
  | bot => obtain rfl := le_bot_iff.mp h'; obtain rfl := le_bot_iff.mp h; simp
  | top => simp
  | coe z =>
    induction b with
    | bot => obtain rfl := le_bot_iff.mp h; simp
    | top => exact absurd h' (by simp)
    | coe y =>
      induction a with
      | bot => simp
      | top => exact absurd h (by simp)
      | coe x =>
        rw [← EReal.coe_sub, ← EReal.coe_sub, ← EReal.coe_sub, Ideal.exp_coe, Ideal.exp_coe, Ideal.exp_coe,
          ← EReal.coe_mul, ← Real.exp_add]
        congr 2; ring

/-- A nonnegative finite factor on the right distributes over a finite sum. -/
theorem sum_mul_right {ι : Type*} (s : Finset ι) (f : ι → EReal) {x : EReal} (h : 0 ≤ x) (h' : x ≠ ⊤) :
    (∑ k ∈ s, f k) * x = ∑ k ∈ s, f k * x := by
  classical
  induction s using Finset.induction_on with
  | empty => simp
  | insert a s ha ih =>
    rw [Finset.sum_insert ha, Finset.sum_insert ha, EReal.right_distrib_of_nonneg_of_ne_top h h', ih]

/-- The largest of the first `n` scores. -/
def top (S : ℕ → EReal) (n : ℕ) : EReal := (Finset.range n).sup S

/-- The sum of the first `n` values, each weighted by the exponential of its score less the largest. -/
def acc (S V : ℕ → EReal) (n : ℕ) : EReal := ∑ k ∈ Finset.range n, Ideal.exp (S k - top S n) * V k

variable (S V : ℕ → EReal)

theorem le_top {n k : ℕ} (h : k < n) : S k ≤ top S n := Finset.le_sup (f := S) (Finset.mem_range.mpr h)

/-- The largest of `n + m` scores. -/
theorem top_add (n m : ℕ) : top S (n + m) = max (top S n) (Finset.univ.sup fun c : Fin m => S (n + c)) := by
  apply le_antisymm
  · refine Finset.sup_le fun k hk => ?_
    rcases lt_or_ge k n with h | h
    · exact le_max_of_le_left (le_top S h)
    · have hk' : k - n < m := by have := Finset.mem_range.mp hk; omega
      refine le_max_of_le_right ?_
      have := Finset.le_sup (f := fun c : Fin m => S (n + c)) (Finset.mem_univ (⟨k - n, hk'⟩ : Fin m))
      simpa [Nat.add_sub_of_le h] using this
  · refine max_le (Finset.sup_le fun k hk => le_top S (by have := Finset.mem_range.mp hk; omega)) ?_
    exact Finset.sup_le fun c _ => le_top S (by omega)

theorem top_le_add (n m : ℕ) : top S n ≤ top S (n + m) := by rw [top_add]; exact le_max_left _ _

/-- The weighted sum of `n + m` keys, from that of the first `n` and the next `m`. -/
theorem acc_add (n m : ℕ) : acc S V (n + m) = acc S V n * Ideal.exp (top S n - top S (n + m))
    + ∑ c : Fin m, Ideal.exp (S (n + c) - top S (n + m)) * V (n + c) := by
  have hle := top_le_add S n m
  rw [acc, Finset.sum_range_add, acc, sum_mul_right _ _ (exp_nonneg _) (exp_sub_ne_top hle),
    Finset.sum_range (n := m)]
  congr 1
  refine Finset.sum_congr rfl fun k hk => ?_
  rw [mul_right_comm, exp_rescale (le_top S (Finset.mem_range.mp hk)) hle]

/-- The summary of the first block of keys. -/
theorem top_fin (n : ℕ) : top S n = Finset.univ.sup fun c : Fin n => S c := by
  have h := top_add S 0 n
  simp only [Nat.zero_add] at h
  rw [h]; simp [top]

theorem acc_fin (n : ℕ) : acc S V n = ∑ c : Fin n, Ideal.exp (S c - top S n) * V c := by
  rw [acc, Finset.sum_range]

/-- Keys whose score is `⊥` leave the largest score as it is. -/
theorem top_of_bot {n N : ℕ} (h : n ≤ N) (hS : ∀ k, n ≤ k → k < N → S k = ⊥) : top S N = top S n := by
  obtain ⟨m, rfl⟩ := Nat.exists_eq_add_of_le h
  rw [top_add, max_eq_left]
  refine Finset.sup_le fun c _ => ?_
  rw [hS _ (by omega) (by omega)]; exact bot_le

/-- Keys whose score is `⊥` leave the weighted sum as it is. -/
theorem acc_of_bot {n N : ℕ} (h : n ≤ N) (hS : ∀ k, n ≤ k → k < N → S k = ⊥) : acc S V N = acc S V n := by
  rw [acc, top_of_bot S h hS, acc]
  refine (Finset.sum_subset (fun k hk => ?_) fun k hk hk' => ?_).symm
  · exact Finset.mem_range.mpr ((Finset.mem_range.mp hk).trans_le h)
  · rw [hS k (by simpa using hk') (Finset.mem_range.mp hk)]; simp

/-- A summary depends on the first `n` scores and values alone. -/
theorem top_congr {S S' : ℕ → EReal} {n : ℕ} (h : ∀ k, k < n → S k = S' k) : top S n = top S' n :=
  Finset.sup_congr rfl fun k hk => h k (Finset.mem_range.mp hk)

theorem acc_congr {S S' V V' : ℕ → EReal} {n : ℕ} (h : ∀ k, k < n → S k = S' k) (h' : ∀ k, k < n → V k = V' k) :
    acc S V n = acc S' V' n := by
  rw [acc, acc, top_congr h]
  exact Finset.sum_congr rfl fun k hk => by
    rw [h k (Finset.mem_range.mp hk), h' k (Finset.mem_range.mp hk)]

end Cert.Attn

end
-- ==== Proof.Attn.Keys.lean ====
/- The attention kernel's scores and values by key number, and what a grid point's blocks hold of them.

   A query's keys are numbered with the 16 meta tokens first and then the prompt's positions. -/
module

public import proofs.«01_k».proof.Proof.Gen.KernelIdeal.Value
public import proofs.«01_k».proof.Proof.Attn.Block
public import proofs.«01_k».proof.Proof.Attn.Softmax

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- Key `n` of batch `b` and head `h`, at column `d`. -/
def key (k : FVec Ideal S16384x1024 .bf16) (km : FVec Ideal S16x1024 .bf16) (b h : Fin 8) (n : ℕ) (d : Fin 128) : EReal :=
  if hn : n < 16 then km (ix2 ⟨n, hn⟩ ⟨h.val * 128 + d.val, by omega⟩)
  else if hn : n - 16 < 2048 then k (ix2 ⟨b.val * 2048 + (n - 16), by omega⟩ ⟨h.val * 128 + d.val, by omega⟩) else 0

/-- The value of key `n` of batch `b` and head `h`, at column `d`. -/
def value (v : FVec Ideal S16384x512 .bf16) (vm : FVec Ideal S16x512 .bf16) (b h : Fin 8) (d : Fin 64) (n : ℕ) : EReal :=
  if hn : n < 16 then vm (ix2 ⟨n, hn⟩ ⟨h.val * 64 + d.val, by omega⟩)
  else if hn : n - 16 < 2048 then v (ix2 ⟨b.val * 2048 + (n - 16), by omega⟩ ⟨h.val * 64 + d.val, by omega⟩) else 0

/-- The score of key `n` against the query at position `p` of batch `b` and head `h`. -/
def scores (q : FVec Ideal S16384x1024 .f32) (k : FVec Ideal S16384x1024 .bf16) (km : FVec Ideal S16x1024 .bf16)
    (b h : Fin 8) (p : Fin 2048) (n : ℕ) : EReal :=
  if n ≤ 16 + p.val then
    (∑ d : Fin 128, q (ix2 ⟨b.val * 2048 + p.val, by omega⟩ ⟨h.val * 128 + d.val, by omega⟩) * key k km b h n d) * scale
  else ⊥

variable (m : (ℓ : Loc nD τ sig) → Buf (Elt Ideal) ℓ)

/-- Where each window's block lies at a grid point, and the point's query and key block numbers. -/
theorem idx : ∀ t : Fin cfg0.N, win0_0.index t = ![t.val / 256 * 8 + t.val / 8 % 8, t.val / 64 % 4]
    ∧ win0_1.index t = ![t.val / 256 * 8 + min (t.val % 8) (t.val / 8 % 8), t.val / 64 % 4]
    ∧ win0_2.index t = ![t.val / 256 * 8 + min (t.val % 8) (t.val / 8 % 8), t.val / 64 % 4]
    ∧ win0_3.index t = ![0, t.val / 64 % 4] ∧ win0_4.index t = ![0, t.val / 64 % 4]
    ∧ win0_5.index t = ![t.val / 256 * 8 + t.val / 8 % 8, t.val / 64 % 4]
    ∧ (grid0.coords t 2).val = t.val / 8 % 8 ∧ (grid0.coords t 3).val = t.val % 8 :=
  (by decide +kernel : ∀ t : Fin grid0.N, _)

theorem lt_N (t : Fin cfg0.N) : t.val < 2048 := lt_of_lt_of_eq t.isLt N_0

/-- The batch, head and query position of a row of a grid point's block. -/
abbrev bat (t : Fin cfg0.N) : Fin 8 := ⟨t.val / 256, by have := lt_N t; omega⟩
abbrev hd (t : Fin cfg0.N) (e : Fin 2) : Fin 8 := ⟨t.val / 64 % 4 * 2 + e.val, by omega⟩
abbrev pos (t : Fin cfg0.N) (r : Fin 256) : Fin 2048 := ⟨t.val / 8 % 8 * 256 + r.val, by omega⟩

/-- The scores of a row of a grid point's block. -/
abbrev rowScores (c : Dev nD) (t : Fin cfg0.N) (e : Fin 2) (r : Fin 256) : ℕ → EReal :=
  scores (m ((c : Thread nD τ).loc main_arg0)) (m ((c : Thread nD τ).loc main_arg1))
    (m ((c : Thread nD τ).loc main_arg3)) (bat t) (hd t e) (pos t r)

/-- The values of a column of a grid point's block. -/
abbrev colValues (c : Dev nD) (t : Fin cfg0.N) (e : Fin 2) (d : Fin 64) : ℕ → EReal :=
  value (m ((c : Thread nD τ).loc main_arg2)) (m ((c : Thread nD τ).loc main_arg4)) (bat t) (hd t e) d

/-- The blocks of a grid point, half by half: head `e` of the point's two. -/
def qBlk (c : Dev nD) (t : Fin cfg0.N) (e : Fin 2) : FVec Ideal S256x128 .f32 :=
  fun y => (iblk m c 0 t : FVec Ideal S256x256 .f32) (ix2 (y 0) ⟨e.val * 128 + (y 1).val, by have : (y 1).val < 128 := (y 1).isLt; omega⟩)
def kBlk (c : Dev nD) (t : Fin cfg0.N) (e : Fin 2) : FVec Ideal S256x128 .bf16 :=
  fun y => (iblk m c 1 t : FVec Ideal S256x256 .bf16) (ix2 (y 0) ⟨e.val * 128 + (y 1).val, by have : (y 1).val < 128 := (y 1).isLt; omega⟩)
def vBlk (c : Dev nD) (t : Fin cfg0.N) (e : Fin 2) : FVec Ideal S256x64 .bf16 :=
  fun y => (iblk m c 2 t : FVec Ideal S256x128 .bf16) (ix2 (y 0) ⟨e.val * 64 + (y 1).val, by have : (y 1).val < 64 := (y 1).isLt; omega⟩)
def kmBlk (c : Dev nD) (t : Fin cfg0.N) (e : Fin 2) : FVec Ideal S128x128 .bf16 :=
  fun y => (iblk m c 3 t : FVec Ideal S128x256 .bf16) (ix2 (y 0) ⟨e.val * 128 + (y 1).val, by have : (y 1).val < 128 := (y 1).isLt; omega⟩)
def vmBlk (c : Dev nD) (t : Fin cfg0.N) (e : Fin 2) : FVec Ideal S128x64 .bf16 :=
  fun y => (iblk m c 4 t : FVec Ideal S128x128 .bf16) (ix2 (y 0) ⟨e.val * 64 + (y 1).val, by have : (y 1).val < 64 := (y 1).isLt; omega⟩)

theorem qBlk_at (c : Dev nD) (t : Fin cfg0.N) (e : Fin 2) (r : Fin 256) (d : Fin 128) :
    qBlk m c t e (ix2 r d) = (m ((c : Thread nD τ).loc main_arg0) : FVec Ideal S16384x1024 .f32)
      (ix2 ⟨(bat t).val * 2048 + (pos t r).val, by have := (bat t).isLt; omega⟩ ⟨(hd t e).val * 128 + d.val, by have := (hd t e).isLt; omega⟩) := by
  unfold qBlk
  blk_point [iblk, V, idx t]

theorem kBlk_at (c : Dev nD) (t : Fin cfg0.N) (h : t.val % 8 ≤ t.val / 8 % 8) (e : Fin 2) (x : Fin 256) (d : Fin 128) :
    kBlk m c t e (ix2 x d) = key (m ((c : Thread nD τ).loc main_arg1)) (m ((c : Thread nD τ).loc main_arg3))
      (bat t) (hd t e) (16 + t.val % 8 * 256 + x.val) d := by
  have hm : min (t.val % 8) (t.val / 8 % 8) = t.val % 8 := min_eq_left h
  unfold kBlk
  rw [key, dif_neg (by omega), dif_pos (by omega)]
  blk_point [iblk, V, idx t, hm]

theorem vBlk_at (c : Dev nD) (t : Fin cfg0.N) (h : t.val % 8 ≤ t.val / 8 % 8) (e : Fin 2) (x : Fin 256) (d : Fin 64) :
    vBlk m c t e (ix2 x d) = colValues m c t e d (16 + t.val % 8 * 256 + x.val) := by
  have hm : min (t.val % 8) (t.val / 8 % 8) = t.val % 8 := min_eq_left h
  unfold vBlk
  rw [colValues, value, dif_neg (by omega), dif_pos (by omega)]
  blk_point [iblk, V, idx t, hm]

theorem kmBlk_at (c : Dev nD) (t : Fin cfg0.N) (e : Fin 2) (x : Fin 128) (hx : x.val < 16) (d : Fin 128) :
    kmBlk m c t e (ix2 x d) = key (m ((c : Thread nD τ).loc main_arg1)) (m ((c : Thread nD τ).loc main_arg3))
      (bat t) (hd t e) x.val d := by
  unfold kmBlk
  rw [key, dif_pos hx]
  unfold iblk
  entry_read
  blk_simp [idx t]
  pointwise
  blk_point [hx, idx t]
  exfalso
  refine ‹¬ (_ : ℕ) < 16› ?_
  blk_simp [idx t]
  all_goals omega

theorem vmBlk_at (c : Dev nD) (t : Fin cfg0.N) (e : Fin 2) (x : Fin 128) (hx : x.val < 16) (d : Fin 64) :
    vmBlk m c t e (ix2 x d) = colValues m c t e d x.val := by
  unfold vmBlk
  rw [colValues, value, dif_pos hx]
  unfold iblk
  entry_read
  blk_simp [idx t]
  pointwise
  blk_point [hx, idx t]
  exfalso
  refine ‹¬ (_ : ℕ) < 16› ?_
  blk_simp [idx t]
  all_goals omega

/-- A point's scores of its prompt keys. -/
theorem score_eq (c : Dev nD) (t : Fin cfg0.N) (h : t.val % 8 ≤ t.val / 8 % 8) (e : Fin 2) (i j : Fin 8)
    (hi : i.val = t.val / 8 % 8) (hj : j.val = t.val % 8) (r x : Fin 256) :
    score i j (qBlk m c t e) (kBlk m c t e) r x = rowScores m c t e r (16 + t.val % 8 * 256 + x.val) := by
  rw [score, rowScores, scores, hi, hj]
  simp only [qBlk_at, kBlk_at m c t h]
  congr 1
  rw [eq_iff_iff]; show _ ≤ _ ↔ _ ≤ 16 + (t.val / 8 % 8 * 256 + r.val); omega

/-- A point's scores of the meta block's columns. -/
theorem metaScore_eq (c : Dev nD) (t : Fin cfg0.N) (e : Fin 2) (r : Fin 256) (x : Fin 128) :
    metaScore (qBlk m c t e) (kmBlk m c t e) r x = if x.val < 16 then rowScores m c t e r x.val else ⊥ := by
  rw [metaScore]
  split
  · rename_i hx
    rw [rowScores, scores, if_pos (by omega)]
    simp only [qBlk_at, kmBlk_at m c t e x hx]
  · rfl

end Cert.KernelIdeal.Value

end
-- ==== Proof.Attn.Step.lean ====
/- What one grid point of the attention kernel does to a row's running maximum, sum of weights and weighted sum of
   values, from what the point before left. -/
module

public import proofs.«01_k».proof.Proof.Attn.Keys
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

section Planes

variable {w : ℕ}

/-- A scratch array of two planes, one per head of the point's pair. -/
abbrev Two (w : ℕ) : Shape := ⟨3, ![2, 256, w]⟩

/-- The plane of head `e`. -/
abbrev plane (w e : ℕ) (h : ∀ a, (![e, 0, 0] : Fin 3 → ℕ) a + (![1, 256, w] : Fin 3 → ℕ) a ≤ (Two w).size a) : Rect (Two w) :=
  Rect.unit ![e, 0, 0] ![1, 256, w] h

theorem plane_emb {e : ℕ} (he : e < 2) (h) (r : Fin 256) (d : Fin w) :
    (plane w e h).emb (ix3 0 r d : (⟨3, ![1, 256, w]⟩ : Shape).Idx) = (ix3 ⟨e, he⟩ r d : (Two w).Idx) := by
  funext a
  fin_cases a <;> exact Fin.ext (by simp [plane, Rect.emb, Rect.unit])

theorem not_mem_plane {e e' : ℕ} (he : e < 2) (hne : e ≠ e') (h) (r : Fin 256) (d : Fin w) :
    (ix3 ⟨e, he⟩ r d : (Two w).Idx) ∉ (plane w e' h).set := by
  intro hm
  have := (Rect.mem_set_unit.mp hm) 0
  simp at this
  omega

/-- A stored plane read back where it was stored last. -/
theorem canon_take {e : ℕ} (he : e < 2) (h) (P : (⟨3, ![1, 256, w]⟩ : Shape).Idx → Elt Ideal .f32)
    (L : List (View.Piece (Elt Ideal) (Two w) .f32)) (r : Fin 256) (d : Fin w) :
    View.canon (⟨plane w e h, P⟩ :: L) (ix3 ⟨e, he⟩ r d) = P (ix3 0 r d) := by
  rw [← plane_emb he h]; exact View.canon_cons_emb _ _ _ _

/-- A store to the other head's plane changes nothing in this head's. -/
theorem canon_skip {e e' : ℕ} (he : e < 2) (hne : e ≠ e') (h) (P : (⟨3, ![1, 256, w]⟩ : Shape).Idx → Elt Ideal .f32)
    (L : List (View.Piece (Elt Ideal) (Two w) .f32)) (r : Fin 256) (d : Fin w) :
    View.canon (⟨plane w e' h, P⟩ :: L) (ix3 ⟨e, he⟩ r d) = View.canon L (ix3 ⟨e, he⟩ r d) :=
  View.canon_cons_of_not_mem _ _ (not_mem_plane he hne h r d)

/-- A plane loaded from a scratch. -/
theorem ld_plane {e : ℕ} (he : e < 2) (h) (X : FVec Ideal (Two w) .f32) (r : Fin 256) (d : Fin w) :
    (View.ld (Val := Elt Ideal) (S := Two w) (e' := .f32) X (plane w e h) : (⟨3, ![1, 256, w]⟩ : Shape).Idx → Elt Ideal .f32) (ix3 0 r d) = X (ix3 ⟨e, he⟩ r d) := by
  rw [← plane_emb he h]; rfl

/-- A plane loaded after stores, entry by entry. -/
theorem readCov_plane {e : ℕ} (he : e < 2) {κ : Kind} {sp : Space} (v : View sig κ sp (Two w) .f32) (h)
    (L : List (View.Piece (Elt Ideal) (Two w) .f32)) (r : Fin 256) (d : Fin w) :
    (v.readCov L (plane w e h).toLoadRect : (⟨3, ![1, 256, w]⟩ : Shape).Idx → Elt Ideal .f32) (ix3 0 r d)
      = View.canon L (ix3 ⟨e, he⟩ r d) := by
  rw [View.readCov_eq_canon', ← plane_emb he h]; rfl

/-- Columns `o, o + 1, …` loaded from a block. -/
theorem ld_cols {a b o : ℕ} {ε : EltTy} (X : (⟨2, ![a, b]⟩ : Shape).Idx → Elt Ideal ε) (h) (ho : o + w ≤ b) (y : (⟨2, ![a, w]⟩ : Shape).Idx) :
    (View.ld (Val := Elt Ideal) (S := ⟨2, ![a, b]⟩) (e' := ε) X (Rect.unit ![0, o] ![a, w] h) : (⟨2, ![a, w]⟩ : Shape).Idx → Elt Ideal ε) y = X (ix2 (y 0) ⟨o + (y 1).val, lt_of_lt_of_le (Nat.add_lt_add_left (y 1).isLt o) ho⟩) := by
  show X _ = X _
  congr 1
  funext i
  fin_cases i <;> exact Fin.ext (by simp [Rect.emb, Rect.unit])

/-- A plane loaded after a store to the other head's. -/
theorem readCov_other {e e' : ℕ} (hne : e ≠ e') {κ : Kind} {sp : Space} (v : View sig κ sp (Two w) .f32) (h) (h')
    (P : (⟨3, ![1, 256, w]⟩ : Shape).Idx → Elt Ideal .f32) (L : List (View.Piece (Elt Ideal) (Two w) .f32)) :
    v.readCov (⟨plane w e' h', P⟩ :: L) (plane w e h).toLoadRect = v.readCov L (plane w e h).toLoadRect :=
  View.readCov_skip _ _ _ _ _ (decide_eq_true ⟨0, by simp [Rect.unit, Rect.toLoadRect]; omega⟩)

end Planes

variable (m : (ℓ : Loc nD τ sig) → Buf (Elt Ideal) ℓ)

/-! The halves of the blocks as the kernel loads them. -/

theorem ld_q0 (c : Dev nD) (t : Fin cfg0.N) :
    View.ld (iblk m c 0 t) (Rect.unit ![0, 0] ![256, 128] inb_S256x256_S256x128_0_0) = qBlk m c t 0 :=
  funext fun y => ld_cols _ _ (by decide) y
theorem ld_q1 (c : Dev nD) (t : Fin cfg0.N) :
    View.ld (iblk m c 0 t) (Rect.unit ![0, 128] ![256, 128] inb_S256x256_S256x128_0_128) = qBlk m c t 1 :=
  funext fun y => ld_cols _ _ (by decide) y
theorem ld_k0 (c : Dev nD) (t : Fin cfg0.N) :
    View.ld (iblk m c 1 t) (Rect.unit ![0, 0] ![256, 128] inb_S256x256_S256x128_0_0) = kBlk m c t 0 :=
  funext fun y => ld_cols _ _ (by decide) y
theorem ld_k1 (c : Dev nD) (t : Fin cfg0.N) :
    View.ld (iblk m c 1 t) (Rect.unit ![0, 128] ![256, 128] inb_S256x256_S256x128_0_128) = kBlk m c t 1 :=
  funext fun y => ld_cols _ _ (by decide) y
theorem ld_v0 (c : Dev nD) (t : Fin cfg0.N) :
    View.ld (iblk m c 2 t) (Rect.unit ![0, 0] ![256, 64] inb_S256x128_S256x64_0_0) = vBlk m c t 0 :=
  funext fun y => ld_cols _ _ (by decide) y
theorem ld_v1 (c : Dev nD) (t : Fin cfg0.N) :
    View.ld (iblk m c 2 t) (Rect.unit ![0, 64] ![256, 64] inb_S256x128_S256x64_0_64) = vBlk m c t 1 :=
  funext fun y => ld_cols _ _ (by decide) y
theorem ld_km0 (c : Dev nD) (t : Fin cfg0.N) :
    View.ld (iblk m c 3 t) (Rect.unit ![0, 0] ![128, 128] inb_S128x256_S128x128_0_0) = kmBlk m c t 0 :=
  funext fun y => ld_cols _ _ (by decide) y
theorem ld_km1 (c : Dev nD) (t : Fin cfg0.N) :
    View.ld (iblk m c 3 t) (Rect.unit ![0, 128] ![128, 128] inb_S128x256_S128x128_0_128) = kmBlk m c t 1 :=
  funext fun y => ld_cols _ _ (by decide) y
theorem ld_vm0 (c : Dev nD) (t : Fin cfg0.N) :
    View.ld (iblk m c 4 t) (Rect.unit ![0, 0] ![128, 64] inb_S128x128_S128x64_0_0) = vmBlk m c t 0 :=
  funext fun y => ld_cols _ _ (by decide) y
theorem ld_vm1 (c : Dev nD) (t : Fin cfg0.N) :
    View.ld (iblk m c 4 t) (Rect.unit ![0, 64] ![128, 64] inb_S128x128_S128x64_0_64) = vmBlk m c t 1 :=
  funext fun y => ld_cols _ _ (by decide) y

/-! A point that meets prompt keys, `0 < j ≤ i`: each row's maximum, sum and weighted sum go on from the point before. -/

section Update

variable (c : Dev nD) (t : Fin cfg0.N) (g0 : ¬t.val % 8 = 0) (g1 : t.val % 8 ≤ t.val / 8 % 8) (e : Fin 2) (r : Fin 256)

/-- What the point before left: maximum, sum of weights and weighted sum of values. -/
abbrev oldMax (c : Dev nD) (t : Fin cfg0.N) (e : Fin 2) (r : Fin 256) : EReal :=
  (outsAt0 m c (t.val - 1) (lt_of_le_of_lt (Nat.sub_le _ _) t.isLt)).2.1 (ix3 e r 0)
abbrev oldSum (c : Dev nD) (t : Fin cfg0.N) (e : Fin 2) (r : Fin 256) : EReal :=
  (outsAt0 m c (t.val - 1) (lt_of_le_of_lt (Nat.sub_le _ _) t.isLt)).2.2.1 (ix3 e r 0)
abbrev oldAcc (c : Dev nD) (t : Fin cfg0.N) (e : Fin 2) (r : Fin 256) (d : Fin 64) : EReal :=
  (outsAt0 m c (t.val - 1) (lt_of_le_of_lt (Nat.sub_le _ _) t.isLt)).2.2.2 (ix3 e r d)

/-- The scores of the point's keys. -/
abbrev blkScore (c : Dev nD) (t : Fin cfg0.N) (e : Fin 2) (r : Fin 256) : Fin 256 → EReal :=
  score (grid0.coords t 2) (grid0.coords t 3) (qBlk m c t e) (kBlk m c t e) r

include g0 g1 in
/-- The new maximum of a row. -/
theorem step_max : (outsAt0 m c t.val t.isLt).2.1 (ix3 e r 0)
    = max (oldMax m c t e r) (Finset.univ.sup (blkScore m c t e r)) := by
  by_cases g2 : t.val % 8 = 7
  all_goals
    first | rw [outsAt0_E m c t g0 g1 g2] | rw [outsAt0_D m c t g0 g1 g2]
    frame_out
    simp only [ld_q0, ld_q1, ld_k0, ld_k1, read_unread_whole]
    obtain rfl | rfl : e = 0 ∨ e = 1 := by omega
    · refine (canon_skip (by decide) (by decide) _ _ _ r 0).trans ((canon_take (by decide) _ _ _ r 0).trans ?_)
      refine (storedMax_at (grid0.coords t 2) (grid0.coords t 3) _ _ _ r).trans ?_
      rw [ld_plane (by decide)]; rfl
    · refine (canon_take (by decide) _ _ _ r 0).trans ?_
      refine (storedMax_at (grid0.coords t 2) (grid0.coords t 3) _ _ _ r).trans ?_
      rw [ld_plane (by decide)]; rfl

include g0 g1 in
/-- The new sum of a row's weights. -/
theorem step_sum : (outsAt0 m c t.val t.isLt).2.2.1 (ix3 e r 0)
    = oldSum m c t e r * Ideal.exp (oldMax m c t e r - max (oldMax m c t e r) (Finset.univ.sup (blkScore m c t e r)))
      + ∑ x : Fin 256, Ideal.exp (blkScore m c t e r x - max (oldMax m c t e r) (Finset.univ.sup (blkScore m c t e r))) := by
  by_cases g2 : t.val % 8 = 7
  all_goals
    first | rw [outsAt0_E m c t g0 g1 g2] | rw [outsAt0_D m c t g0 g1 g2]
    frame_out
    simp only [ld_q0, ld_q1, ld_k0, ld_k1, read_unread_whole]
    obtain rfl | rfl : e = 0 ∨ e = 1 := by omega
    · refine (canon_skip (by decide) (by decide) _ _ _ r 0).trans ((canon_take (by decide) _ _ _ r 0).trans ?_)
      refine (sum_at (grid0.coords t 2) (grid0.coords t 3) _ _ _ _ r).trans ?_
      rw [ld_plane (by decide), ld_plane (by decide)]; rfl
    · refine (canon_take (by decide) _ _ _ r 0).trans ?_
      refine (sum_at (grid0.coords t 2) (grid0.coords t 3) _ _ _ _ r).trans ?_
      rw [ld_plane (by decide), ld_plane (by decide)]; rfl

include g0 g1 in
/-- The new weighted sum of a row's values. -/
theorem step_acc (d : Fin 64) : (outsAt0 m c t.val t.isLt).2.2.2 (ix3 e r d)
    = oldAcc m c t e r d * Ideal.exp (oldMax m c t e r - max (oldMax m c t e r) (Finset.univ.sup (blkScore m c t e r)))
      + ∑ x : Fin 256, Ideal.exp (blkScore m c t e r x - max (oldMax m c t e r) (Finset.univ.sup (blkScore m c t e r)))
          * vBlk m c t e (ix2 x d) := by
  by_cases g2 : t.val % 8 = 7
  all_goals
    first | rw [outsAt0_E m c t g0 g1 g2] | rw [outsAt0_D m c t g0 g1 g2]
    frame_out
    simp only [ld_q0, ld_q1, ld_k0, ld_k1, ld_v0, ld_v1, read_unread_whole]
    obtain rfl | rfl : e = 0 ∨ e = 1 := by omega
    · refine (canon_skip (by decide) (by decide) _ _ _ r d).trans ((canon_take (by decide) _ _ _ r d).trans ?_)
      refine (acc_at (grid0.coords t 2) (grid0.coords t 3) _ _ _ _ _ r d).trans ?_
      rw [ld_plane (by decide), ld_plane (by decide)]; rfl
    · refine (canon_take (by decide) _ _ _ r d).trans ?_
      refine (acc_at (grid0.coords t 2) (grid0.coords t 3) _ _ _ _ _ r d).trans ?_
      rw [ld_plane (by decide), ld_plane (by decide)]; rfl

end Update

/-! The first point of a row of blocks, `j = 0`: the meta block starts the sums and the point's prompt keys follow. -/

section First

variable (c : Dev nD) (t : Fin cfg0.N) (g0 : t.val % 8 = 0) (e : Fin 2) (r : Fin 256)

/-- The scores of the meta block's columns, their maximum, and the point's new maximum. -/
abbrev firstScore (c : Dev nD) (t : Fin cfg0.N) (e : Fin 2) (r : Fin 256) : Fin 128 → EReal :=
  metaScore (qBlk m c t e) (kmBlk m c t e) r
abbrev firstMax (c : Dev nD) (t : Fin cfg0.N) (e : Fin 2) (r : Fin 256) : EReal := Finset.univ.sup (firstScore m c t e r)

include g0 in
/-- The maximum of a row. -/
theorem first_max : (outsAt0 m c t.val t.isLt).2.1 (ix3 e r 0)
    = max (firstMax m c t e r) (Finset.univ.sup (blkScore m c t e r)) := by
  rw [outsAt0_A m c t g0 (by omega) (by omega)]
  frame_out
  simp only [ld_q0, ld_q1, ld_k0, ld_k1, ld_km0, ld_km1]
  obtain rfl | rfl : e = 0 ∨ e = 1 := by omega
  · refine (canon_skip (by decide) (by decide) _ _ _ r 0).trans ((canon_take (by decide) _ _ _ r 0).trans ?_)
    refine (storedMax_at (grid0.coords t 2) (grid0.coords t 3) _ _ _ r).trans ?_
    rw [readCov_other (by decide), View.readCov_cons_toLoadRect, metaStoredMax_at]
  · refine (canon_take (by decide) _ _ _ r 0).trans ?_
    refine (storedMax_at (grid0.coords t 2) (grid0.coords t 3) _ _ _ r).trans ?_
    rw [readCov_other (e := 1) (e' := 0) (by decide)]
    rw [View.readCov_cons_toLoadRect, second_metaMax, metaStoredMax_at]

include g0 in
/-- The sum of a row's weights. -/
theorem first_sum : (outsAt0 m c t.val t.isLt).2.2.1 (ix3 e r 0)
    = (∑ x : Fin 128, Ideal.exp (firstScore m c t e r x - firstMax m c t e r))
        * Ideal.exp (firstMax m c t e r - max (firstMax m c t e r) (Finset.univ.sup (blkScore m c t e r)))
      + ∑ x : Fin 256, Ideal.exp (blkScore m c t e r x - max (firstMax m c t e r) (Finset.univ.sup (blkScore m c t e r))) := by
  rw [outsAt0_A m c t g0 (by omega) (by omega)]
  frame_out
  simp only [ld_q0, ld_q1, ld_k0, ld_k1, ld_km0, ld_km1]
  obtain rfl | rfl : e = 0 ∨ e = 1 := by omega
  · refine (canon_skip (by decide) (by decide) _ _ _ r 0).trans ((canon_take (by decide) _ _ _ r 0).trans ?_)
    refine (sum_at (grid0.coords t 2) (grid0.coords t 3) _ _ _ _ r).trans ?_
    rw [readCov_other (e := 0) (e' := 1) (by decide), View.readCov_cons_toLoadRect, metaSum_at,
      readCov_other (e := 0) (e' := 1) (by decide), View.readCov_cons_toLoadRect, metaStoredMax_at]
  · refine (canon_take (by decide) _ _ _ r 0).trans ?_
    refine (sum_at (grid0.coords t 2) (grid0.coords t 3) _ _ _ _ r).trans ?_
    rw [readCov_other (e := 1) (e' := 0) (by decide), View.readCov_cons_toLoadRect, second_metaSum, metaSum_at,
      readCov_other (e := 1) (e' := 0) (by decide), View.readCov_cons_toLoadRect, second_metaMax, metaStoredMax_at]

include g0 in
/-- The weighted sum of a row's values. -/
theorem first_acc (d : Fin 64) : (outsAt0 m c t.val t.isLt).2.2.2 (ix3 e r d)
    = (∑ x : Fin 128, Ideal.exp (firstScore m c t e r x - firstMax m c t e r) * vmBlk m c t e (ix2 x d))
        * Ideal.exp (firstMax m c t e r - max (firstMax m c t e r) (Finset.univ.sup (blkScore m c t e r)))
      + ∑ x : Fin 256, Ideal.exp (blkScore m c t e r x - max (firstMax m c t e r) (Finset.univ.sup (blkScore m c t e r)))
          * vBlk m c t e (ix2 x d) := by
  rw [outsAt0_A m c t g0 (by omega) (by omega)]
  frame_out
  simp only [ld_q0, ld_q1, ld_k0, ld_k1, ld_km0, ld_km1, ld_v0, ld_v1, ld_vm0, ld_vm1]
  obtain rfl | rfl : e = 0 ∨ e = 1 := by omega
  · refine (canon_skip (by decide) (by decide) _ _ _ r d).trans ((canon_take (by decide) _ _ _ r d).trans ?_)
    refine (acc_at (grid0.coords t 2) (grid0.coords t 3) _ _ _ _ _ r d).trans ?_
    rw [readCov_other (e := 0) (e' := 1) (by decide), View.readCov_cons_toLoadRect, metaAcc_at,
      readCov_other (e := 0) (e' := 1) (by decide), View.readCov_cons_toLoadRect, metaStoredMax_at]
  · refine (canon_take (by decide) _ _ _ r d).trans ?_
    refine (acc_at (grid0.coords t 2) (grid0.coords t 3) _ _ _ _ _ r d).trans ?_
    rw [readCov_other (e := 1) (e' := 0) (by decide), View.readCov_cons_toLoadRect, second_metaAcc, metaAcc_at,
      readCov_other (e := 1) (e' := 0) (by decide), View.readCov_cons_toLoadRect, second_metaMax, metaStoredMax_at]

end First

/-! A point past the diagonal, `i < j`: nothing changes. -/

theorem keep (c : Dev nD) (t : Fin cfg0.N) (g1 : ¬t.val % 8 ≤ t.val / 8 % 8) :
    (outsAt0 m c t.val t.isLt).2 = (outsAt0 m c (t.val - 1) (lt_of_le_of_lt (Nat.sub_le _ _) t.isLt)).2 := by
  by_cases g2 : t.val % 8 = 7
  · rw [outsAt0_C m c t (by omega) g1 g2]; rfl
  · rw [outsAt0_B m c t (by omega) g1 g2]; rfl

/-- The block stored at the last key block: each weighted sum over its sum of weights. -/
theorem stored (c : Dev nD) (t : Fin cfg0.N) (g2 : t.val % 8 = 7) (e : Fin 2) (r : Fin 256) (d : Fin 64) :
    (outsAt0 m c t.val t.isLt).1 (ix2 r ⟨e.val * 64 + d.val, by omega⟩)
      = Ideal.div ((outsAt0 m c t.val t.isLt).2.2.2 (ix3 e r d)) ((outsAt0 m c t.val t.isLt).2.2.1 (ix3 e r 0)) := by
  by_cases g1 : t.val % 8 ≤ t.val / 8 % 8
  · rw [outsAt0_E m c t (by omega) g1 g2]
    frame_out
    refine (out_at _ _ _ _ r _).trans ?_
    obtain rfl | rfl : e = 0 ∨ e = 1 := by omega
    · rw [dif_pos (by show 0 * 64 + d.val < 64; omega), readCov_plane (by decide), readCov_plane (by decide)]
      simp only [Fin.val_zero, Nat.zero_mul, Nat.zero_add]
      rfl
    · rw [dif_neg (by show ¬1 * 64 + d.val < 64; omega), readCov_plane (by decide), readCov_plane (by decide)]
      simp only [Fin.val_one, Nat.one_mul, Nat.add_sub_cancel_left]
      rfl
  · rw [keep m c t g1, outsAt0_C m c t (by omega) g1 g2]
    frame_out
    simp only [read_unread_whole]
    refine (out_at _ _ _ _ r _).trans ?_
    obtain rfl | rfl : e = 0 ∨ e = 1 := by omega
    · rw [dif_pos (by show 0 * 64 + d.val < 64; omega), ld_plane (by decide), ld_plane (by decide)]
      simp only [Fin.val_zero, Nat.zero_mul, Nat.zero_add]
      rfl
    · rw [dif_neg (by show ¬1 * 64 + d.val < 64; omega), ld_plane (by decide), ld_plane (by decide)]
      simp only [Fin.val_one, Nat.one_mul, Nat.add_sub_cancel_left]
      rfl

end Cert.KernelIdeal.Value

end
-- ==== Proof.Attn.Fold.lean ====
/- The running maximum, sum of weights and weighted sum that the attention kernel carries along a row of key blocks are
   those of all the keys met so far. -/
module

public import proofs.«01_k».proof.Proof.Attn.Step

@[expose] public section

set_option maxRecDepth 16384

noncomputable section

open Idealize.ShloMosaic Idealize.ShloMosaic.TcCoe Idealize.SL.Sem
open Cert.Attn

namespace Cert.KernelIdeal.Value

open Cert.KernelIdeal Cert.KernelIdeal.Gen

variable (m : (ℓ : Loc nD τ sig) → Buf (Elt Ideal) ℓ)

/-- The number of keys a row has met after a grid point: the meta tokens and the key blocks up to the diagonal. -/
abbrev met (t : Fin cfg0.N) : ℕ := 16 + (min (t.val % 8) (t.val / 8 % 8) + 1) * 256

/-- A row's carried values are the maximum, the sum of weights and the weighted sums of the keys it has met. -/
def Carried (c : Dev nD) (t : Fin cfg0.N) : Prop :=
  ∀ (e : Fin 2) (r : Fin 256),
    (outsAt0 m c t.val t.isLt).2.1 (ix3 e r 0) = top (rowScores m c t e r) (met t)
    ∧ (outsAt0 m c t.val t.isLt).2.2.1 (ix3 e r 0) = acc (rowScores m c t e r) (fun _ => 1) (met t)
    ∧ ∀ d : Fin 64, (outsAt0 m c t.val t.isLt).2.2.2 (ix3 e r d) = acc (rowScores m c t e r) (colValues m c t e d) (met t)

theorem blkScore_eq (c : Dev nD) (t : Fin cfg0.N) (h : t.val % 8 ≤ t.val / 8 % 8) (e : Fin 2) (r : Fin 256) :
    blkScore m c t e r = fun x : Fin 256 => rowScores m c t e r (16 + t.val % 8 * 256 + x.val) :=
  funext fun x => score_eq m c t h e _ _ (idx t).2.2.2.2.2.2.1 (idx t).2.2.2.2.2.2.2 r x

/-- The scores of the meta block by column number: the columns past the meta tokens are masked. -/
def masked (S : ℕ → EReal) (n : ℕ) : EReal := if n < 16 then S n else ⊥

theorem firstScore_eq (c : Dev nD) (t : Fin cfg0.N) (e : Fin 2) (r : Fin 256) :
    firstScore m c t e r = fun x : Fin 128 => masked (rowScores m c t e r) x.val :=
  funext fun x => metaScore_eq m c t e r x

theorem masked_of_lt (S : ℕ → EReal) (k : ℕ) (h : k < 16) : masked S k = S k := if_pos h

theorem masked_of_le (S : ℕ → EReal) (k : ℕ) (h : 16 ≤ k) : masked S k = ⊥ := if_neg (by omega)

/-- The maximum over the meta block is that of the meta tokens. -/
theorem firstMax_eq (c : Dev nD) (t : Fin cfg0.N) (e : Fin 2) (r : Fin 256) :
    firstMax m c t e r = top (rowScores m c t e r) 16 := by
  rw [firstMax, firstScore_eq, ← top_fin (masked _) 128,
    top_of_bot (masked _) (show 16 ≤ 128 by omega) fun k h _ => masked_of_le _ k h]
  exact top_congr fun k h => masked_of_lt _ k h

/-- A weighted sum over the meta block is that of the meta tokens. -/
theorem first_acc_eq (c : Dev nD) (t : Fin cfg0.N) (e : Fin 2) (r : Fin 256) (f : Fin 128 → EReal) (V : ℕ → EReal)
    (hV : ∀ x : Fin 128, x.val < 16 → f x = V x.val) :
    ∑ x : Fin 128, Ideal.exp (firstScore m c t e r x - firstMax m c t e r) * f x = acc (rowScores m c t e r) V 16 := by
  have ht : firstMax m c t e r = top (masked (rowScores m c t e r)) 128 := by rw [firstMax, firstScore_eq, ← top_fin]
  rw [ht, firstScore_eq, ← acc_congr (fun k h => masked_of_lt (rowScores m c t e r) k h) (fun k _ => rfl),
    ← acc_of_bot (masked (rowScores m c t e r)) V (show 16 ≤ 128 by omega) fun k h _ => masked_of_le _ k h, acc_fin]
  refine Finset.sum_congr rfl fun x _ => ?_
  by_cases hx : x.val < 16
  · rw [hV x hx]
  · simp only [masked_of_le _ x.val (Nat.le_of_not_lt hx), EReal.bot_sub, Ideal.exp_bot, zero_mul]

/-- After the first key block. -/
theorem carried_first (c : Dev nD) (t : Fin cfg0.N) (g0 : t.val % 8 = 0) : Carried m c t := by
  intro e r
  have hm : met t = 16 + 256 := by simp only [met, g0]; omega
  have hb := blkScore_eq m c t (by omega) e r
  rw [g0] at hb
  simp only [Nat.zero_mul, Nat.add_zero] at hb
  have hmax := first_max m c t g0 e r
  rw [firstMax_eq, hb, ← Attn.top_add] at hmax
  refine ⟨by rw [hmax, hm], ?_, fun d => ?_⟩
  · have h := first_acc_eq m c t e r (fun _ => 1) (fun _ => 1) fun _ _ => rfl
    simp only [mul_one] at h
    rw [first_sum m c t g0 e r, h, firstMax_eq, hb, ← Attn.top_add, hm, acc_add _ _ 16 256]
    simp only [mul_one]
  · have h := first_acc_eq m c t e r (fun x => vmBlk m c t e (ix2 x d)) (colValues m c t e d)
      fun x hx => vmBlk_at m c t e x hx d
    rw [first_acc m c t g0 e r d, h, firstMax_eq, hb, ← Attn.top_add, hm, acc_add _ _ 16 256]
    refine congrArg _ (Finset.sum_congr rfl fun x _ => ?_)
    rw [vBlk_at m c t (by omega), g0, Nat.zero_mul, Nat.add_zero]

/-- From one key block to the next. -/
theorem carried_next (c : Dev nD) (t s : Fin cfg0.N) (hs : s.val = t.val - 1) (g0 : ¬t.val % 8 = 0)
    (ih : Carried m c s) : Carried m c t := by
  intro e r
  obtain ⟨s, hlt⟩ := s
  obtain rfl : s = t.val - 1 := hs
  have hN := lt_N t
  have hrow : rowScores m c ⟨t.val - 1, hlt⟩ e r = rowScores m c t e r := by
    have h₁ : bat ⟨t.val - 1, hlt⟩ = bat t := Fin.ext (by show (t.val - 1) / 256 = t.val / 256; omega)
    have h₂ : hd ⟨t.val - 1, hlt⟩ e = hd t e := Fin.ext (by show (t.val - 1) / 64 % 4 * 2 + e.val = t.val / 64 % 4 * 2 + e.val; omega)
    have h₃ : pos ⟨t.val - 1, hlt⟩ r = pos t r := Fin.ext (by show (t.val - 1) / 8 % 8 * 256 + r.val = t.val / 8 % 8 * 256 + r.val; omega)
    rw [rowScores, h₁, h₂, h₃]
  have hcol : ∀ d, colValues m c ⟨t.val - 1, hlt⟩ e d = colValues m c t e d := fun d => by
    have h₁ : bat ⟨t.val - 1, hlt⟩ = bat t := Fin.ext (by show (t.val - 1) / 256 = t.val / 256; omega)
    have h₂ : hd ⟨t.val - 1, hlt⟩ e = hd t e := Fin.ext (by show (t.val - 1) / 64 % 4 * 2 + e.val = t.val / 64 % 4 * 2 + e.val; omega)
    rw [colValues, h₁, h₂]
  obtain ⟨i₁, i₂, i₃⟩ := ih e r
  simp only [hrow, hcol] at i₁ i₂ i₃
  by_cases g1 : t.val % 8 ≤ t.val / 8 % 8
  · have hmet : met ⟨t.val - 1, hlt⟩ = 16 + t.val % 8 * 256 := by simp only [met]; omega
    have hmet' : met t = 16 + t.val % 8 * 256 + 256 := by simp only [met]; omega
    rw [hmet] at i₁ i₂ i₃
    have hb := blkScore_eq m c t g1 e r
    have hmax := step_max m c t g0 g1 e r
    rw [oldMax, i₁, hb, ← Attn.top_add] at hmax
    refine ⟨by rw [hmax, hmet'], ?_, fun d => ?_⟩
    · rw [step_sum m c t g0 g1 e r, oldMax, oldSum, i₁, i₂, hb, ← Attn.top_add, hmet', acc_add _ _ (16 + t.val % 8 * 256) 256]
      simp only [mul_one]
    · rw [step_acc m c t g0 g1 e r d, oldMax, oldAcc, i₁, i₃ d, hb, ← Attn.top_add, hmet', acc_add _ _ (16 + t.val % 8 * 256) 256]
      exact congrArg _ (Finset.sum_congr rfl fun x _ => by rw [vBlk_at m c t g1])
  · have hmet : met ⟨t.val - 1, hlt⟩ = met t := by simp only [met]; omega
    rw [hmet] at i₁ i₂ i₃
    rw [keep m c t g1]
    exact ⟨i₁, i₂, i₃⟩

/-- At every grid point. -/
theorem carried (c : Dev nD) : ∀ (n : ℕ) (h : n < cfg0.N), Carried m c ⟨n, h⟩ := by
  intro n
  induction n with
  | zero => exact fun h => carried_first m c ⟨0, h⟩ rfl
  | succ n ih =>
    intro h
    by_cases g0 : (n + 1) % 8 = 0
    · exact carried_first m c ⟨n + 1, h⟩ g0
    · exact carried_next m c ⟨n + 1, h⟩ ⟨n, by omega⟩ rfl g0 (ih (by omega))

/-- The keys past those a row meets are masked, so the block stored at the end holds the weighted sum of all keys' values
    over the sum of all weights. -/
theorem stored_all (c : Dev nD) (t : Fin cfg0.N) (g2 : t.val % 8 = 7) (e : Fin 2) (r : Fin 256) (d : Fin 64) :
    (outsAt0 m c t.val t.isLt).1 (ix2 r ⟨e.val * 64 + d.val, by omega⟩)
      = Ideal.div (acc (rowScores m c t e r) (colValues m c t e d) 2064) (acc (rowScores m c t e r) (fun _ => 1) 2064) := by
  have hle : met t ≤ 2064 := by simp only [met]; omega
  have hbot : ∀ k, met t ≤ k → k < 2064 → rowScores m c t e r k = ⊥ := fun k h _ => by
    rw [rowScores, scores, if_neg]
    show ¬k ≤ 16 + (t.val / 8 % 8 * 256 + r.val)
    simp only [met] at h; omega
  obtain ⟨-, h₂, h₃⟩ := carried m c t.val t.isLt e r
  rw [stored m c t g2, h₂, h₃ d, acc_of_bot _ _ hle hbot, acc_of_bot _ _ hle hbot]

end Cert.KernelIdeal.Value

end
-- ==== Proof.Attn.Reference.lean ====
/- The attention reference's result, entry by entry: a row's weighted sum of values over its sum of weights. -/
module

public import proofs.«01_k».proof.Proof.Gen.ReferenceIdeal
public import proofs.«01_k».proof.Proof.Gen.ReferenceIdeal.Run
public import proofs.«01_k».proof.Proof.Attn.Keys
public import Idealize.ShloMosaic.Lib.Pointwise

@[expose] public section

set_option maxRecDepth 16384

noncomputable section

open Idealize.ShloMosaic Idealize.ShloMosaic.TcCoe Idealize.SL.Sem
open Cert.Attn

namespace Cert.ReferenceIdeal.Value

open Cert.ReferenceIdeal Cert.ReferenceIdeal.Gen
open Cert.KernelIdeal.Value (key value scores scale)

/-- The keys of each batch, the meta tokens' first. -/
def keys (k : FVec Ideal S16384x1024 .bf16) (km : FVec Ideal S16x1024 .bf16) : FVec Ideal S8x2064x8x128 .f32 :=
  concatenate S8x2064x8x128 1
    [⟨S8x16x8x128, broadcastInDim S8x16x8x128 ![0, 1, 2, 3] bcast_S1x16x8x128_S8x16x8x128_0_1_2_3
        (broadcastInDim S1x16x8x128 ![1, 2, 3] bcast_S16x8x128_S1x16x8x128_1_2_3
          (shapeCast S16x8x128 (extf .f32 km bitsLt_bf16_f32) shapeCasts_S16x1024_S16x8x128))⟩,
      ⟨S8x2048x8x128, shapeCast S8x2048x8x128 (extf .f32 k bitsLt_bf16_f32) shapeCasts_S16384x1024_S8x2048x8x128⟩]
    concatenates_S8x16x8x128_S8x2048x8x128_S8x2064x8x128_d1

/-- The values of each batch, the meta tokens' first. -/
def values (v : FVec Ideal S16384x512 .bf16) (vm : FVec Ideal S16x512 .bf16) : FVec Ideal S8x2064x8x64 .f32 :=
  concatenate S8x2064x8x64 1
    [⟨S8x16x8x64, broadcastInDim S8x16x8x64 ![0, 1, 2, 3] bcast_S1x16x8x64_S8x16x8x64_0_1_2_3
        (broadcastInDim S1x16x8x64 ![1, 2, 3] bcast_S16x8x64_S1x16x8x64_1_2_3
          (shapeCast S16x8x64 (extf .f32 vm bitsLt_bf16_f32) shapeCasts_S16x512_S16x8x64))⟩,
      ⟨S8x2048x8x64, shapeCast S8x2048x8x64 (extf .f32 v bitsLt_bf16_f32) shapeCasts_S16384x512_S8x2048x8x64⟩]
    concatenates_S8x16x8x64_S8x2048x8x64_S8x2064x8x64_d1

/-- The masked scores. -/
def logits (q : FVec Ideal S16384x1024 .f32) (k : FVec Ideal S16384x1024 .bf16) (km : FVec Ideal S16x1024 .bf16) :
    FVec Ideal S8x8x2048x2064 .f32 :=
  select
    (broadcastInDim S8x8x2048x2064 ![2, 3] bcast_S2048x2064_S8x8x2048x2064_2_3
      (cmpi .sle
        (broadcastInDim S2048x2064 ![0, 1] bcast_S1x2064_S2048x2064_0_1
          (broadcastInDim S1x2064 ![1] bcast_S2064_S1x2064_1 (iotaInDim S2064 32 0)))
        (broadcastInDim S2048x2064 ![0, 1] bcast_S2048x1_S2048x2064_0_1
          (broadcastInDim S2048x1 ![0] bcast_S2048_S2048x1_0
            (addi (broadcastInDim S2048 ![] bcast_S_S2048 (constantI S_ 32 16#32)) (iotaInDim S2048 32 0))))))
    (Host.divf
      (Host.dotGeneral dot_S8x2048x8x128_S8x2064x8x128_S8x8x2048x2064_3_3_1_1_02_02 none
        (shapeCast S8x2048x8x128 q shapeCasts_S16384x1024_S8x2048x8x128) (keys k km))
      (broadcastInDim S8x8x2048x2064 ![] bcast_S_S8x8x2048x2064 (Host.sqrt (constant S_ .f32 0x42C00000#32))))
    (broadcastInDim S8x8x2048x2064 ![] bcast_S_S8x8x2048x2064 (id (constant S_ .f32 0xFF800000#32)))

/-- The weights: exponentials of the scores less their row's largest. -/
def weights (q : FVec Ideal S16384x1024 .f32) (k : FVec Ideal S16384x1024 .bf16) (km : FVec Ideal S16x1024 .bf16) :
    FVec Ideal S8x8x2048x2064 .f32 :=
  Host.exp (subf (logits q k km)
    (broadcastInDim S8x8x2048x2064 ![0, 1, 2, 3] bcast_S8x8x2048x1_S8x8x2048x2064_0_1_2_3
      (broadcastInDim S8x8x2048x1 ![0, 1, 2] bcast_S8x8x2048_S8x8x2048x1_0_1_2
        (Host.reduce FloatOps.maximumf (logits q k km) (constant S_ .f32 0xFF800000#32)
          reducesTo_S8x8x2048x2064_S8x8x2048_d3 h_S_))))

/-- The result. -/
def ref (q : FVec Ideal S16384x1024 .f32) (k : FVec Ideal S16384x1024 .bf16) (v : FVec Ideal S16384x512 .bf16)
    (km : FVec Ideal S16x1024 .bf16) (vm : FVec Ideal S16x512 .bf16) : FVec Ideal S16384x512 .bf16 :=
  truncf .bf16
    (shapeCast S16384x512
      (Host.divf
        (transpose S8x2048x8x64 [0, 3, 1, 2]
          (Host.dotGeneral dot_S8x2064x8x64_S8x8x2048x2064_S8x8x64x2048_1_3_3_2_02_01 none (values v vm) (weights q k km))
          transposes_S8x8x64x2048_S8x2048x8x64_0_3_1_2)
        (broadcastInDim S8x2048x8x64 ![0, 1, 2, 3] bcast_S8x2048x8x1_S8x2048x8x64_0_1_2_3
          (broadcastInDim S8x2048x8x1 ![0, 1, 2] bcast_S8x2048x8_S8x2048x8x1_0_1_2
            (transpose S8x2048x8 [0, 2, 1]
              (Host.reduceAdd (weights q k km) (constant S_ .f32 0x00000000#32) reducesTo_S8x8x2048x2064_S8x8x2048_d3 h_S_)
              transposes_S8x8x2048_S8x2048x8_0_2_1))))
      shapeCasts_S8x2048x8x64_S16384x512) bitsLt_bf16_f32

/-- The reference's run ends with this result. -/
theorem res_eq (m : (ℓ : Loc nD τ sig) → Buf (Elt Ideal) ℓ) (c : Dev nD) :
    res_main_v42 m c = ref (m (c.tc.loc main_arg0)) (m (c.tc.loc main_arg1)) (m (c.tc.loc main_arg2))
      (m (c.tc.loc main_arg3)) (m (c.tc.loc main_arg4)) := by
  unfold res_main_v42 ref weights logits keys values
  rfl

section

variable (q : FVec Ideal S16384x1024 .f32) (k : FVec Ideal S16384x1024 .bf16) (v : FVec Ideal S16384x512 .bf16)
  (km : FVec Ideal S16x1024 .bf16) (vm : FVec Ideal S16x512 .bf16)

theorem keys_at (b : Fin 8) (n : Fin 2064) (h : Fin 8) (d : Fin 128) :
    keys k km (ix4 b n h d) = key k km b h n.val d := by
  rw [key]
  pointwise [keys]
  blk_point []
  exfalso; omega

theorem values_at (b : Fin 8) (n : Fin 2064) (h : Fin 8) (d : Fin 64) :
    values v vm (ix4 b n h d) = value v vm b h d n.val := by
  rw [value]
  pointwise [values]
  blk_point []
  exfalso; omega

/-- The causal comparison of a key's number with a query's position, as words and as numbers. -/
theorem select_key (n : Fin 2064) (p : Fin 2048) (x : EReal) :
    Scalar.select (IntOp.cmpi .sle (BitVec.ofNat 32 n.val) (IntOp.addi 16#32 (BitVec.ofNat 32 p.val))) x (⊥ : EReal)
      = if n.val ≤ 16 + p.val then x else ⊥ := by
  have h : ∀ a : Fin 2048, IntOp.addi 16#32 (BitVec.ofNat 32 a.val) = BitVec.ofNat 32 (16 + a.val) := by decide +kernel
  rw [h]
  word_cmp

/-- Dividing by `√96` is multiplying by its inverse. -/
theorem div_sqrt (x : EReal) : Ideal.div x (Ideal.sqrt (Ideal.ofBits .f32 0x42C00000#32)) = x * scale := by
  have h : Ideal.ofBits .f32 0x42C00000#32 = ((96 : ℝ) : EReal) := by
    simp [Ideal.ofBits, Ideal.ieee]; rw [← EReal.coe_mul]; norm_num
  have hs : Real.sqrt 96 ≠ 0 := (Real.sqrt_pos.2 (by norm_num)).ne'
  rw [h, Ideal.sqrt_coe, if_neg (by norm_num), Ideal.div_coe hs, one_div]

theorem minusInf : Ideal.ofBits .f32 0xFF800000#32 = (⊥ : EReal) := by simp [Ideal.ofBits, Ideal.ieee]

/-- A masked score. -/
theorem logits_at (b h : Fin 8) (p : Fin 2048) (n : Fin 2064) :
    logits q k km (ix4 b h p n) = scores q k km b h p n.val := by
  rw [scores, ← select_key, ← div_sqrt]
  pointwise [logits]
  simp only [keys_at]
  exact congrArg _ minusInf

/-- A weight. -/
theorem weights_at (b h : Fin 8) (p : Fin 2048) (n : Fin 2064) :
    weights q k km (ix4 b h p n)
      = Ideal.exp (scores q k km b h p n.val - top (scores q k km b h p) 2064) := by
  rw [top_fin, ← Cert.KernelIdeal.Value.fold_max]
  pointwise [weights]
  simp only [logits_at]

/-- The result at a row and a column: the weighted sum of the values over the sum of the weights. -/
theorem ref_at (b : Fin 8) (p : Fin 2048) (h : Fin 8) (d : Fin 64) :
    ref q k v km vm (ix2 ⟨b.val * 2048 + p.val, by omega⟩ ⟨h.val * 64 + d.val, by omega⟩)
      = Ideal.div (acc (scores q k km b h p) (value v vm b h d) 2064)
          (acc (scores q k km b h p) (fun _ => 1) 2064) := by
  rw [acc_fin, acc_fin]
  pointwise [ref]
  simp only [weights_at, values_at, mul_one, mul_comm (value _ _ _ _ _ _)]

end

end Cert.ReferenceIdeal.Value

end
-- ==== Proof.Attn.Value.lean ====
/- The attention kernel's result array is the reference's. -/
module

public import proofs.«01_k».proof.Proof.Attn.Fold
public import proofs.«01_k».proof.Proof.Attn.Reference

@[expose] public section

set_option maxRecDepth 16384

noncomputable section

open Idealize.ShloMosaic Idealize.ShloMosaic.TcCoe Idealize.SL.Sem
open Idealize.ShloMosaic.Pipeline (Dat)
open Cert.Attn

namespace Cert.KernelIdeal.Value

open Cert.KernelIdeal Cert.KernelIdeal.Gen

variable (m : (ℓ : Loc nD τ sig) → Buf (Elt Ideal) ℓ)

/-- Only a row block's last grid point writes its result back. -/
theorem flush_last : ∀ t : Fin cfg0.N, cfg0.win 5 |>.flush t → t.val % 8 = 7 :=
  (by decide +kernel : ∀ t : Fin grid0.N, _)

/-- The head of the pair and the coordinate within it that a column of a block belongs to. -/
abbrev headOf (y : S256x128.Idx) : Fin 2 := ⟨(y 1).val / 64, by have : (y 1).val < 128 := (y 1).isLt; omega⟩
abbrev coordOf (y : S256x128.Idx) : Fin 64 := ⟨(y 1).val % 64, by omega⟩

/-- A block's entry in the coordinates of batch, position, head and coordinate. -/
theorem entry (t : Fin cfg0.N) (y : S256x128.Idx) :
    (win0_5.blk t).view.emb y
      = ix2 ⟨(bat t).val * 2048 + (pos t (y 0)).val, by omega⟩ ⟨(hd t (headOf y)).val * 64 + (coordOf y).val, by omega⟩ := by
  funext i
  have h := (idx t).2.2.2.2.2.1
  have := lt_N t
  fin_cases i <;> apply Fin.ext <;> blk_simp [h]
  · show (t.val / 256 * 8 + t.val / 8 % 8) * 256 + (y 0).val = t.val / 256 * 2048 + (t.val / 8 % 8 * 256 + (y 0).val)
    omega
  · show t.val / 64 % 4 * 128 + (y 1).val = (t.val / 64 % 4 * 2 + (y 1).val / 64) * 64 + (y 1).val % 64
    omega

/-- What the last grid point of a row block stores. -/
theorem stored_entry (c : Dev nD) (t : Fin cfg0.N) (g2 : t.val % 8 = 7) (y : S256x128.Idx) :
    (outsAt0 m c t.val t.isLt).1 y
      = Ideal.div (acc (rowScores m c t (headOf y) (y 0)) (colValues m c t (headOf y) (coordOf y)) 2064)
          (acc (rowScores m c t (headOf y) (y 0)) (fun _ => 1) 2064) := by
  rw [← stored_all m c t g2 (headOf y) (y 0) (coordOf y)]
  refine congrArg (outsAt0 m c t.val t.isLt).1 (funext fun i => ?_)
  fin_cases i
  · rfl
  · exact Fin.ext (by show (y 1).val = (y 1).val / 64 * 64 + (y 1).val % 64; omega)

/-- After the run the result array is the reference's. -/
theorem final (c : Dev nD) : (dats m 0 c).arrAt 5 (cfgs 0).N
    = Cert.ReferenceIdeal.Value.ref (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp
  rw [after0_5]
  rw [entry t y]
  exact (stored_entry m c t (flush_last t hf) y).trans (Cert.ReferenceIdeal.Value.ref_at _ _ _ _ _ _ _ _ _).symm

end Cert.KernelIdeal.Value

end
-- ==== Proof.Ffn.Value.lean ====
/- The channel mixer's result array is the reference's.

   Each grid point stores 256 finished rows: `x1 + relu(h2 W_up)² W_down`, normalised to unit mean square and
   scaled. The reference computes the same row from the same arrays, so the comparison is index by index. -/
module

public import proofs.«01_k».proof.Proof.Gen.FfnIdeal.Value
public import proofs.«01_k».proof.Proof.Gen.FfnReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The hidden activations of all rows. -/
abbrev hidden (h2 : FVec Ideal S16384x1024 .bf16) (up : FVec Ideal S1024x4096 .f32) :
    FVec Ideal Cert.FfnReferenceIdeal.S16384x4096 .f32 :=
  maximumf (Host.dotGeneral Cert.FfnReferenceIdeal.dot_S16384x1024_S1024x4096_S16384x4096_1_0_0_1_n_n none
      (extf .f32 h2 Cert.FfnReferenceIdeal.Gen.bitsLt_bf16_f32) up)
    (broadcastInDim Cert.FfnReferenceIdeal.S16384x4096 ![] Cert.FfnReferenceIdeal.Gen.bcast_S_S16384x4096
      (constant Cert.FfnReferenceIdeal.S_ .f32 0x00000000#32))

/-- The rows before the final normalisation. -/
abbrev mixed (x1 : FVec Ideal S16384x1024 .f32) (h2 : FVec Ideal S16384x1024 .bf16)
    (up : FVec Ideal S1024x4096 .f32) (down : FVec Ideal S4096x1024 .f32) : FVec Ideal S16384x1024 .f32 :=
  addf x1 (Host.dotGeneral Cert.FfnReferenceIdeal.dot_S16384x4096_S4096x1024_S16384x1024_1_0_0_1_n_n none
    (mulf (hidden h2 up) (hidden h2 up)) down)

/-- The reference's result. -/
abbrev ref (x1 : FVec Ideal S16384x1024 .f32) (h2 : FVec Ideal S16384x1024 .bf16)
    (up : FVec Ideal S1024x4096 .f32) (down : FVec Ideal S4096x1024 .f32) (g : FVec Ideal S1024 .f32) :
    FVec Ideal S16384x1024 .f32 :=
  mulf (mulf (mixed x1 h2 up down)
      (broadcastInDim Cert.FfnReferenceIdeal.S16384x1024 ![0, 1] Cert.FfnReferenceIdeal.Gen.bcast_S16384x1_S16384x1024_0_1
        (Host.rsqrt (addf (Host.divf
            (broadcastInDim Cert.FfnReferenceIdeal.S16384x1 ![0] Cert.FfnReferenceIdeal.Gen.bcast_S16384_S16384x1_0
              (Host.reduceAdd (mulf (mixed x1 h2 up down) (mixed x1 h2 up down))
                (constant Cert.FfnReferenceIdeal.S_ .f32 0x00000000#32)
                Cert.FfnReferenceIdeal.Gen.reducesTo_S16384x1024_S16384_d1 Cert.FfnReferenceIdeal.Gen.h_S_))
            (broadcastInDim Cert.FfnReferenceIdeal.S16384x1 ![] Cert.FfnReferenceIdeal.Gen.bcast_S_S16384x1
              (constant Cert.FfnReferenceIdeal.S_ .f32 0x44800000#32)))
          (broadcastInDim Cert.FfnReferenceIdeal.S16384x1 ![] Cert.FfnReferenceIdeal.Gen.bcast_S_S16384x1
            (constant Cert.FfnReferenceIdeal.S_ .f32 0x358637BD#32))))))
    (broadcastInDim Cert.FfnReferenceIdeal.S16384x1024 ![0, 1] Cert.FfnReferenceIdeal.Gen.bcast_S1x1024_S16384x1024_0_1
      (broadcastInDim Cert.FfnReferenceIdeal.S1x1024 ![1] Cert.FfnReferenceIdeal.Gen.bcast_S1024_S1x1024_1 g))

/-- Where each window's block lies at a grid point: the row windows at the point's rows, the weights whole. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0] :=
  (by decide +kernel : ∀ t : Fin grid0.N, _)

/-- What a grid point stores at an element of its block is the reference at the element's place in the array. -/
theorem point (c : Dev nD) (t : Fin cfg0.N) (y) :
    k0_pay1 (iblk m c 1 t) (iblk m c 2 t) (iblk m c 0 t) (iblk m c 3 t) (iblk m c 4 t) y
      = ref (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  pointwise [k0_pay1, ref, mixed, hidden]
  blk_point [iblk, V, idx t]

/-- After the run the result array is the reference's. -/
theorem final (c : Dev nD) : (dats m 0 c).arrAt 5 (cfgs 0).N
    = ref (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]; frame_out
  exact point m c t y

end Cert.FfnIdeal.Value

end
-- ==== Proof.Merge.Value.lean ====
/- The branch merge's two result arrays are the reference's.

   Each grid point stores 256 rows of `x + (g₁ · (o₁ W₁) + g₂ · (o₂ W₂)) W_out` and of their scaled RMS
   normalisation. The reference computes the same rows from the same arrays, so the comparison is index by
   index. -/
module

public import proofs.«01_k».proof.Proof.Gen.MergeIdeal.Value
public import proofs.«01_k».proof.Proof.Gen.MergeReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- A branch's output projected to the model width. -/
abbrev branch (o : FVec Ideal S16384x512 .bf16) (w : FVec Ideal S512x1024 .f32) : FVec Ideal S16384x1024 .f32 :=
  Host.dotGeneral Cert.MergeReferenceIdeal.dot_S16384x512_S512x1024_S16384x1024_1_0_0_1_n_n none
    (extf .f32 o Cert.MergeReferenceIdeal.Gen.bitsLt_bf16_f32) w

/-- The reference's first result: the rows after the mixer's residual. -/
abbrev ref (x : FVec Ideal S16384x1024 .f32) (o₁ o₂ : FVec Ideal S16384x512 .bf16) (g : FVec Ideal S16384x2048 .f32)
    (w₁ w₂ : FVec Ideal S512x1024 .f32) (w : FVec Ideal S1024x1024 .f32) : FVec Ideal S16384x1024 .f32 :=
  addf x (Host.dotGeneral Cert.MergeReferenceIdeal.dot_S16384x1024_S1024x1024_S16384x1024_1_0_0_1_n_n none
    (addf
      (mulf (extractStridedSlice Cert.MergeReferenceIdeal.S16384x1024 ![0, 0] g
        Cert.MergeReferenceIdeal.Gen.slices_S16384x2048_S16384x1024_0_0) (branch o₁ w₁))
      (mulf (extractStridedSlice Cert.MergeReferenceIdeal.S16384x1024 ![0, 1024] g
        Cert.MergeReferenceIdeal.Gen.slices_S16384x2048_S16384x1024_0_1024) (branch o₂ w₂))) w)

/-- The reference's second result: those rows normalised and scaled. -/
abbrev refNorm (x : FVec Ideal S16384x1024 .f32) (o₁ o₂ : FVec Ideal S16384x512 .bf16)
    (g : FVec Ideal S16384x2048 .f32) (w₁ w₂ : FVec Ideal S512x1024 .f32) (w : FVec Ideal S1024x1024 .f32)
    (s : FVec Ideal S1024 .f32) : FVec Ideal S16384x1024 .bf16 :=
  truncf .bf16
    (mulf (mulf (ref x o₁ o₂ g w₁ w₂ w)
        (broadcastInDim Cert.MergeReferenceIdeal.S16384x1024 ![0, 1]
          Cert.MergeReferenceIdeal.Gen.bcast_S16384x1_S16384x1024_0_1
          (Host.rsqrt (addf (Host.divf
              (broadcastInDim Cert.MergeReferenceIdeal.S16384x1 ![0]
                Cert.MergeReferenceIdeal.Gen.bcast_S16384_S16384x1_0
                (Host.reduceAdd (mulf (ref x o₁ o₂ g w₁ w₂ w) (ref x o₁ o₂ g w₁ w₂ w))
                  (constant Cert.MergeReferenceIdeal.S_ .f32 0x00000000#32)
                  Cert.MergeReferenceIdeal.Gen.reducesTo_S16384x1024_S16384_d1 Cert.MergeReferenceIdeal.Gen.h_S_))
              (broadcastInDim Cert.MergeReferenceIdeal.S16384x1 ![] Cert.MergeReferenceIdeal.Gen.bcast_S_S16384x1
                (constant Cert.MergeReferenceIdeal.S_ .f32 0x44800000#32)))
            (broadcastInDim Cert.MergeReferenceIdeal.S16384x1 ![] Cert.MergeReferenceIdeal.Gen.bcast_S_S16384x1
              (constant Cert.MergeReferenceIdeal.S_ .f32 0x358637BD#32))))))
      (broadcastInDim Cert.MergeReferenceIdeal.S16384x1024 ![0, 1]
        Cert.MergeReferenceIdeal.Gen.bcast_S1x1024_S16384x1024_0_1
        (broadcastInDim Cert.MergeReferenceIdeal.S1x1024 ![1] Cert.MergeReferenceIdeal.Gen.bcast_S1024_S1x1024_1 s)))
    Cert.MergeReferenceIdeal.Gen.bitsLt_bf16_f32

/-- Where each window's block lies at a grid point: the row windows at the point's rows, the weights whole. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

/-- After the run the first result array is the reference's. -/
theorem final (c : Dev nD) : (dats m 0 c).arrAt 8 (cfgs 0).N
    = ref (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]; frame_out
  pointwise [k0_pay2, ref, branch]
  blk_point [iblk, V, idx t]

/-- After the run the second result array is the reference's. -/
theorem finalNorm (c : Dev nD) : (dats m 0 c).arrAt 9 (cfgs 0).N
    = refNorm (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 9 _ (by decide +kernel) fun t _ y => ?_
  blk_simp
  rw [after0_9]; frame_out
  pointwise [k0_pay1, k0_pay2, k0_pay3, k0_pay4, refNorm, ref, branch]
  blk_point [iblk, V, idx t]

end Cert.MergeIdeal.Value

end
-- ==== Proof.Proj.Rows.lean ====
/- The projection of one row, as scalar formulas: normalisation, the combined columns, the rotary embedding. -/
module

public import Idealize.ShloMosaic.Lib.Pointwise
public import Idealize.ShloMosaic.Lib.IdealHost

@[expose] public section

noncomputable section

open Idealize.ShloMosaic

namespace Cert.Rows

/-- A row scaled by the reciprocal root of its mean square, the count of its entries given, and by a gain. -/
def nrm {n : ℕ} (count : EReal) (x g : Fin n → EReal) (i : Fin n) : EReal :=
  x i * Ideal.rsqrt (Ideal.div (∑ j, x j * x j) count + Ideal.ofBits .f32 0x358637BD#32) * g i

/-- A row times a matrix, at a column. -/
def times {n k : ℕ} (u : Fin n → EReal) (w : Fin n → Fin k → EReal) (j : Fin k) : EReal := ∑ i, u i * w i j

/-- The combined columns of a row: the row normalised, times the input weights. -/
def columns (x g : Fin 1024 → EReal) (w : Fin 1024 → Fin 4512 → EReal) : Fin 4512 → EReal :=
  times (nrm (Ideal.ofBits .f32 0x44800000#32) x g) w

/-- The query's low-rank row, normalised. -/
def lowRank (z : Fin 4512 → EReal) (g : Fin 384 → EReal) : Fin 384 → EReal :=
  nrm (Ideal.ofBits .f32 0x43C00000#32) (fun i => z ⟨i.val, by omega⟩) g

/-- The cached latent row, normalised. -/
def latent (z : Fin 4512 → EReal) (g : Fin 256 → EReal) : Fin 256 → EReal :=
  nrm (Ideal.ofBits .f32 0x43800000#32) (fun i => z ⟨384 + i.val, by omega⟩) g

/-- The rotary angle of a position at a frequency. -/
def angle (p : BitVec 32) (i : ℕ) : EReal :=
  (FloatOps.sitofp (F := Ideal) .f32 p : EReal) * Ideal.pow (Ideal.ofBits .f32 0x461C4000#32)
    (Ideal.div (-(Ideal.ofBits .f32 0x40000000#32 * (FloatOps.sitofp (F := Ideal) .f32 (BitVec.ofNat 32 i) : EReal)))
      (Ideal.ofBits .f32 0x42000000#32))

/-- The rotated key columns of a row at a position. -/
def keyTurn (z : Fin 4512 → EReal) (p : BitVec 32) (e : Fin 32) : EReal :=
  if h : (e : ℕ) < 16 then
    z ⟨640 + e.val, by omega⟩ * Ideal.cos (angle p e.val) - z ⟨656 + e.val, by omega⟩ * Ideal.sin (angle p e.val)
  else z ⟨640 + (e.val - 16), by omega⟩ * Ideal.sin (angle p (e.val - 16))
    + z ⟨656 + (e.val - 16), by omega⟩ * Ideal.cos (angle p (e.val - 16))

/-- The query heads of a row at a position, each of 64 plain entries, 32 rotated and 32 zero. -/
def query (u : Fin 768 → EReal) (p : BitVec 32) (j : Fin 1024) : EReal :=
  if h : j.val % 128 < 64 then u ⟨j.val / 128 * 96 + j.val % 128, by omega⟩
  else if h : j.val % 128 < 80 then
    u ⟨j.val / 128 * 96 + j.val % 128, by omega⟩ * Ideal.cos (angle p (j.val % 128 - 64))
      - u ⟨j.val / 128 * 96 + (j.val % 128 + 16), by omega⟩ * Ideal.sin (angle p (j.val % 128 - 64))
  else if h : j.val % 128 < 96 then
    u ⟨j.val / 128 * 96 + (j.val % 128 - 16), by omega⟩ * Ideal.sin (angle p (j.val % 128 - 80))
      + u ⟨j.val / 128 * 96 + j.val % 128, by omega⟩ * Ideal.cos (angle p (j.val % 128 - 80))
  else 0

/-- The cache row: the latent entries, then the rotated key columns. -/
def cacheRow (l : Fin 256 → EReal) (e : Fin 32 → EReal) (j : Fin 288) : EReal :=
  if h : j.val < 256 then l ⟨j.val, h⟩ else e ⟨j.val - 256, by omega⟩

/-- The key heads of a row, each of 64 plain entries, the 32 rotated columns and 32 zero. -/
def keys (u : Fin 512 → EReal) (e : Fin 32 → EReal) (j : Fin 1024) : EReal :=
  if h : j.val % 128 < 64 then u ⟨j.val / 128 * 64 + j.val % 128, by omega⟩
  else if h : j.val % 128 < 96 then e ⟨j.val % 128 - 64, by omega⟩
  else 0

end Cert.Rows

end
-- ==== Proof.Proj.Blocks.lean ====
/- The blocks the projection kernel reads at a grid point. -/
module

public import proofs.«01_k».proof.Proof.Gen.ProjIdeal.Value
public import proofs.«01_k».proof.Proof.Proj.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0]
    ∧ win0_7.index t = ![t.val % 8, 0] ∧ win0_8.index t = ![t.val % 8, 0]
    ∧ win0_9.index t = ![t.val % 8, 0] ∧ win0_10.index t = ![t.val % 8, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

variable (c : Dev nD) (t : Fin cfg0.N)

/-! ## The blocks, as blocks of the host line's buffers -/

/-- The rows of the input at a grid point. -/
theorem blk0 (r : Fin 256) (d : Fin 1024) : iblk m c 0 t (ix2 r d) = m ((c : Thread nD τ).loc main_arg0)
    (ix3 ⟨(t.val * 256 + r.val) / 2048, by have := lt_of_lt_of_eq t.isLt (by decide : cfg0.N = 64); omega⟩
      ⟨(t.val * 256 + r.val) % 2048, by omega⟩ d) := by
  have e : ∀ i : Fin 16384, V m c main_v42 (ix2 i d) = m ((c : Thread nD τ).loc main_arg0)
      (ix3 ⟨i.val / 2048, by omega⟩ ⟨i.val % 2048, by omega⟩ d) := fun i => by after_reads_at
  have := lt_of_lt_of_eq t.isLt (by decide : cfg0.N = 64)
  refine Eq.trans ?_ (e ⟨t.val * 256 + r.val, by omega⟩)
  unfold iblk
  blk_simp [idx t]
  blk_point [idx t]

/-- The mixer's gain. -/
theorem blk1 (d : Fin 1024) : iblk m c 1 t (ix2 0 d) = m ((c : Thread nD τ).loc main_arg1) (ix2 0 d) := by
  have e : V m c main_v39 (ix2 0 d) = m ((c : Thread nD τ).loc main_arg1) (ix2 0 d) := by after_reads_at
  refine Eq.trans ?_ e
  unfold iblk
  blk_simp [idx t]
  blk_point [idx t]

/-- The input weights, rearranged. -/
theorem blk2 (k : Fin 1024) (j : Fin 4736) : iblk m c 2 t (ix2 k j) = V m c main_v19 (ix2 k j) := by
  unfold iblk
  blk_simp [idx t]
  blk_point [idx t]

/-- The query's gain. -/
theorem blk3 (d : Fin 384) : iblk m c 3 t (ix2 0 d) = m ((c : Thread nD τ).loc main_arg3) (ix2 0 d) := by
  have e : V m c main_v40 (ix2 0 d) = m ((c : Thread nD τ).loc main_arg3) (ix2 0 d) := by after_reads_at
  refine Eq.trans ?_ e
  unfold iblk
  blk_simp [idx t]
  blk_point [idx t]

/-- The query weights, rearranged. -/
theorem blk4 (k : Fin 384) (j : Fin 2048) : iblk m c 4 t (ix2 k j) = V m c main_v32 (ix2 k j) := by
  unfold iblk
  blk_simp [idx t]
  blk_point [idx t]

/-- The latent's gain. -/
theorem blk5 (d : Fin 256) : iblk m c 5 t (ix2 0 d) = m ((c : Thread nD τ).loc main_arg5) (ix2 0 d) := by
  have e : V m c main_v41 (ix2 0 d) = m ((c : Thread nD τ).loc main_arg5) (ix2 0 d) := by after_reads_at
  refine Eq.trans ?_ e
  unfold iblk
  blk_simp [idx t]
  blk_point [idx t]

/-- The key and value weights, rearranged. -/
theorem blk6 (k : Fin 256) (j : Fin 1536) : iblk m c 6 t (ix2 k j) = V m c main_v38 (ix2 k j) := by
  unfold iblk
  blk_simp [idx t]
  blk_point [idx t]

/-- The query's cosine table, at the point's positions. -/
theorem blk7 (r : Fin 256) (j : Fin 128) : iblk m c 7 t (ix2 r j)
    = V m c main_v69 (ix2 ⟨t.val % 8 * 256 + r.val, by omega⟩ j) := by
  unfold iblk
  blk_simp [idx t]
  blk_point [idx t]

/-- The query's sine table, at the point's positions. -/
theorem blk8 (r : Fin 256) (j : Fin 128) : iblk m c 8 t (ix2 r j)
    = V m c main_v71 (ix2 ⟨t.val % 8 * 256 + r.val, by omega⟩ j) := by
  unfold iblk
  blk_simp [idx t]
  blk_point [idx t]

/-- The key's cosine table, at the point's positions. -/
theorem blk9 (r : Fin 256) (j : Fin 128) : iblk m c 9 t (ix2 r j)
    = V m c main_v72 (ix2 ⟨t.val % 8 * 256 + r.val, by omega⟩ j) := by
  unfold iblk
  blk_simp [idx t]
  blk_point [idx t]

/-- The key's sine table, at the point's positions. -/
theorem blk10 (r : Fin 256) (j : Fin 128) : iblk m c 10 t (ix2 r j)
    = V m c main_v73 (ix2 ⟨t.val % 8 * 256 + r.val, by omega⟩ j) := by
  unfold iblk
  blk_simp [idx t]
  blk_point [idx t]

end Cert.ProjIdeal.Value

end
-- ==== Proof.Proj.Weights.lean ====
/- The weights the projection kernel reads, entry by entry, from the layer's arguments. -/
module

public import proofs.«01_k».proof.Proof.Gen.ProjIdeal.Value
public import proofs.«01_k».proof.Proof.Proj.Blocks
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-! ## The input weights -/

/-- The gate columns. -/
theorem win_gate (k : Fin 1024) (j : Fin 2048) : iblk m c 2 t (ix2 k ⟨j.val, by omega⟩)
    = m ((c : Thread nD τ).loc main_arg2) (ix3 0 k ⟨2464 + j.val, by omega⟩) := by
  rw [blk2]
  after_reads_at
  after_reads_at

/-- The recurrent branch's columns. -/
theorem win_rec (k : Fin 1024) (j : Fin 1792) : iblk m c 2 t (ix2 k ⟨2048 + j.val, by omega⟩)
    = m ((c : Thread nD τ).loc main_arg2) (ix3 0 k ⟨672 + j.val, by omega⟩) := by
  rw [blk2]
  after_reads_at
  after_reads_at

/-- The query's low-rank columns. -/
theorem win_lowRank (k : Fin 1024) (j : Fin 384) : iblk m c 2 t (ix2 k ⟨3840 + j.val, by omega⟩)
    = m ((c : Thread nD τ).loc main_arg2) (ix3 0 k ⟨j.val, by omega⟩) := by
  rw [blk2]
  after_reads_at
  rw [dif_neg (by omega), dif_neg (by omega), dif_pos (by omega)]
  after_reads_at
  exact congrArg (fun i => m ((c : Thread nD τ).loc main_arg2) (ix3 0 k i)) (Fin.mk_eq_mk.mpr (by omega))

/-- The latent columns. -/
theorem win_latent (k : Fin 1024) (j : Fin 256) : iblk m c 2 t (ix2 k ⟨4224 + j.val, by omega⟩)
    = m ((c : Thread nD τ).loc main_arg2) (ix3 0 k ⟨384 + j.val, by omega⟩) := by
  rw [blk2]
  after_reads_at
  rw [dif_neg (by omega), dif_neg (by omega), dif_neg (by omega), dif_pos (by omega)]
  after_reads_at
  exact congrArg (fun i => m ((c : Thread nD τ).loc main_arg2) (ix3 0 k i)) (Fin.mk_eq_mk.mpr (by omega))

/-- The rotated key columns, laid twice. -/
theorem win_turn (k : Fin 1024) (j : Fin 128) (h : j.val % 64 < 32) : iblk m c 2 t (ix2 k ⟨4480 + j.val, by omega⟩)
    = m ((c : Thread nD τ).loc main_arg2) (ix3 0 k ⟨640 + j.val % 64, by omega⟩) := by
  rw [blk2]
  after_reads_at
  rw [dif_neg (by omega), dif_neg (by omega), dif_neg (by omega), dif_neg (by omega), dif_pos (by omega)]
  after_reads_at
  after_reads_at
  split_ifs <;> first
    | (exfalso; omega)
    | exact congrArg (fun i => m ((c : Thread nD τ).loc main_arg2) (ix3 0 k i)) (Fin.mk_eq_mk.mpr (by omega))

/-- Their second copy with the halves exchanged: the first half. -/
theorem win_turnLow (k : Fin 1024) (j : Fin 128) (h : j.val % 64 < 16) : iblk m c 2 t (ix2 k ⟨4608 + j.val, by omega⟩)
    = m ((c : Thread nD τ).loc main_arg2) (ix3 0 k ⟨656 + j.val % 64, by omega⟩) := by
  rw [blk2]
  after_reads_at
  rw [dif_neg (by omega), dif_neg (by omega), dif_neg (by omega), dif_neg (by omega), dif_neg (by omega)]
  after_reads_at
  after_reads_at
  split_ifs <;> first
    | (exfalso; omega)
    | exact congrArg (fun i => m ((c : Thread nD τ).loc main_arg2) (ix3 0 k i)) (Fin.mk_eq_mk.mpr (by omega))

/-- Their second copy with the halves exchanged: the second half. -/
theorem win_turnHigh (k : Fin 1024) (j : Fin 128) (h : 16 ≤ j.val % 64) (h' : j.val % 64 < 32) :
    iblk m c 2 t (ix2 k ⟨4608 + j.val, by omega⟩)
      = m ((c : Thread nD τ).loc main_arg2) (ix3 0 k ⟨640 + (j.val % 64 - 16), by omega⟩) := by
  rw [blk2]
  after_reads_at
  rw [dif_neg (by omega), dif_neg (by omega), dif_neg (by omega), dif_neg (by omega), dif_neg (by omega)]
  after_reads_at
  after_reads_at
  split_ifs <;> first
    | (exfalso; omega)
    | exact congrArg (fun i => m ((c : Thread nD τ).loc main_arg2) (ix3 0 k i)) (Fin.mk_eq_mk.mpr (by omega))

/-! ## The query, key and value weights -/

/-- The query weights as given. -/
abbrev wq (k : Fin 384) (e : Fin 768) : EReal := m ((c : Thread nD τ).loc main_arg4) (ix3 0 k e)

/-- The key weights as given. -/
abbrev wk (k : Fin 256) (e : Fin 512) : EReal := m ((c : Thread nD τ).loc main_arg6) (ix3 0 k e)

/-- The query weights of a head padded to 128 columns. -/
theorem wuq_plain (k : Fin 384) (j : Fin 1024) : iblk m c 4 t (ix2 k ⟨j.val, by omega⟩)
    = (if h : j.val % 128 < 96 then wq m c k ⟨j.val / 128 * 96 + j.val % 128, by omega⟩ else 0 : EReal) := by
  rw [blk4]
  after_reads_at
  after_reads_at
  after_reads_at

/-- The query weights of a head with the rotated halves exchanged: the first half. -/
theorem wuq_turnLow (k : Fin 384) (j : Fin 1024) (h : 64 ≤ j.val % 128) (h' : j.val % 128 < 80) :
    iblk m c 4 t (ix2 k ⟨1024 + j.val, by omega⟩) = wq m c k ⟨j.val / 128 * 96 + (j.val % 128 + 16), by omega⟩ := by
  rw [blk4]
  after_reads_at
  after_reads_at
  after_reads_at
  rw [dif_neg (by omega : ¬ j.val % 128 < 64), dif_pos (by omega : j.val % 128 - 64 < 32),
    dif_pos (by omega : j.val % 128 - 64 < 16)]
  exact congrArg (wq m c k) (Fin.ext (by dsimp only; omega))

/-- The query weights of a head with the rotated halves exchanged: the second half. -/
theorem wuq_turnHigh (k : Fin 384) (j : Fin 1024) (h : 80 ≤ j.val % 128) (h' : j.val % 128 < 96) :
    iblk m c 4 t (ix2 k ⟨1024 + j.val, by omega⟩) = wq m c k ⟨j.val / 128 * 96 + (j.val % 128 - 16), by omega⟩ := by
  rw [blk4]
  after_reads_at
  after_reads_at
  after_reads_at
  rw [dif_neg (by omega : ¬ j.val % 128 < 64), dif_pos (by omega : j.val % 128 - 64 < 32),
    dif_neg (by omega : ¬ j.val % 128 - 64 < 16)]
  exact congrArg (wq m c k) (Fin.ext (by dsimp only; omega))

/-- The query weights of a head with the rotated halves exchanged: the plain columns are zero. -/
theorem wuq_turnZero (k : Fin 384) (j : Fin 1024) (h : j.val % 128 < 64 ∨ 96 ≤ j.val % 128) :
    iblk m c 4 t (ix2 k ⟨1024 + j.val, by omega⟩) = (0 : EReal) := by
  rw [blk4]
  after_reads_at
  after_reads_at
  after_reads_at
  rcases h with h | h
  · rw [dif_pos h]
  · rw [dif_neg (by omega : ¬ j.val % 128 < 64), dif_neg (by omega : ¬ j.val % 128 - 64 < 32)]

/-- The key weights of a head padded to 128 columns. -/
theorem wukv_key (k : Fin 256) (j : Fin 1024) : iblk m c 6 t (ix2 k ⟨j.val, by omega⟩)
    = (if h : j.val % 128 < 64 then wk m c k ⟨j.val / 128 * 64 + j.val % 128, by omega⟩ else 0 : EReal) := by
  rw [blk6]
  after_reads_at
  after_reads_at
  after_reads_at

/-- The value weights. -/
theorem wukv_value (k : Fin 256) (j : Fin 512) : iblk m c 6 t (ix2 k ⟨1024 + j.val, by omega⟩)
    = m ((c : Thread nD τ).loc main_arg7) (ix3 0 k j) := by
  rw [blk6]
  after_reads_at
  after_reads_at

end Cert.ProjIdeal.Value

end
-- ==== Proof.Proj.Tables.lean ====
/- The rotary tables the projection kernel reads, entry by entry. -/
module

public import proofs.«01_k».proof.Proof.Gen.ProjIdeal.Value
public import proofs.«01_k».proof.Proof.Proj.Blocks
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-! ## The rotary tables -/

/-- The position of a row of the prompt, counted after the meta tokens. -/
abbrev pos (r : Fin 256) : BitVec 32 := IntOp.addi (16#32) (BitVec.ofNat 32 (t.val % 8 * 256 + r.val))

/-- The query's cosine table: one on the plain entries, zero past the rotated ones. -/
theorem tab_cosq (r : Fin 256) (j : Fin 128) : iblk m c 7 t (ix2 r j)
    = (if j.val < 64 then 1 else if j.val < 80 then Ideal.cos (Rows.angle (pos t r) (j.val - 64))
      else if j.val < 96 then Ideal.cos (Rows.angle (pos t r) (j.val - 80)) else 0 : EReal) := by
  rw [blk7]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The query's sine table: zero off the rotated entries, negative on their first half. -/
theorem tab_sinq (r : Fin 256) (j : Fin 128) : iblk m c 8 t (ix2 r j)
    = (if j.val < 64 then 0 else if j.val < 80 then -Ideal.sin (Rows.angle (pos t r) (j.val - 64))
      else if j.val < 96 then Ideal.sin (Rows.angle (pos t r) (j.val - 80)) else 0 : EReal) := by
  rw [blk8]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The key's cosine table on the rotated entries. -/
theorem tab_cosk (r : Fin 256) (j : Fin 128) : iblk m c 9 t (ix2 r j)
    = (if j.val % 64 < 16 then Ideal.cos (Rows.angle (pos t r) (j.val % 64))
      else if j.val % 64 < 32 then Ideal.cos (Rows.angle (pos t r) (j.val % 64 - 16)) else 0 : EReal) := by
  rw [blk9]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The key's sine table on the rotated entries. -/
theorem tab_sink (r : Fin 256) (j : Fin 128) : iblk m c 10 t (ix2 r j)
    = (if j.val % 64 < 16 then -Ideal.sin (Rows.angle (pos t r) (j.val % 64))
      else if j.val % 64 < 32 then Ideal.sin (Rows.angle (pos t r) (j.val % 64 - 16)) else 0 : EReal) := by
  rw [blk10]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

end Cert.ProjIdeal.Value

end
-- ==== Proof.Proj.Kernel.lean ====
/- One row of the projection kernel, as scalar formulas over the blocks it reads. -/
module

public import proofs.«01_k».proof.Proof.Gen.ProjIdeal.Value
public import proofs.«01_k».proof.Proof.Proj.Rows
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-! ## The kernel's intermediate values, entry by entry -/

/-- The normalised row. -/
theorem h_at (A : FVec Ideal S256x1024 .f32) (G : FVec Ideal S1x1024 .f32) (r : Fin 256) (k : Fin 1024) :
    k0_pay3 (F := Ideal) A G (ix2 r k)
      = Rows.nrm (Ideal.ofBits .f32 0x44800000#32) (fun d => A (ix2 r d)) (fun d => G (ix2 0 d)) k := by
  pointwise [k0_pay3, Rows.nrm]

/-- The normalised low-rank query row. -/
theorem qn_at (H : FVec Ideal S256x1024 .bf16) (W : FVec Ideal S1024x384 .bf16) (G : FVec Ideal S1x384 .f32)
    (r : Fin 256) (k : Fin 384) :
    k0_pay15 (F := Ideal) H W G (ix2 r k)
      = Rows.nrm (Ideal.ofBits .f32 0x43C00000#32) (fun i => ∑ d : Fin 1024, H (ix2 r d) * W (ix2 d i))
          (fun d => G (ix2 0 d)) k := by
  pointwise [k0_pay15, Rows.nrm]

/-- The normalised latent row. -/
theorem ckv_at (H : FVec Ideal S256x1024 .bf16) (W : FVec Ideal S1024x256 .bf16) (G : FVec Ideal S1x256 .f32)
    (r : Fin 256) (k : Fin 256) :
    k0_pay31 (F := Ideal) H W G (ix2 r k)
      = Rows.nrm (Ideal.ofBits .f32 0x43800000#32) (fun i => ∑ d : Fin 1024, H (ix2 r d) * W (ix2 d i))
          (fun d => G (ix2 0 d)) k := by
  pointwise [k0_pay31, Rows.nrm]

/-- The rotated key columns. -/
theorem kr_at (Z : FVec Ideal S256x256 .f32) (A B : FVec Ideal S256x128 .f32) (x : S256x128.Idx) :
    k0_pay33 (F := Ideal) Z A B x
      = Z (ix2 (x 0) ⟨(x 1).val, by have : (x 1 : ℕ) < 128 := (x 1).isLt; omega⟩) * A x
        + Z (ix2 (x 0) ⟨128 + (x 1).val, by have : (x 1 : ℕ) < 128 := (x 1).isLt; omega⟩) * B x := by
  pointwise [k0_pay33]

/-- The rotated key columns kept on a head's rotated entries. -/
theorem krHead_at (Z : FVec Ideal S256x256 .f32) (A B : FVec Ideal S256x128 .f32) (x : S256x128.Idx) :
    k0_pay35 (F := Ideal) Z A B x
      = if 64 ≤ (x 1 : ℕ) ∧ (x 1 : ℕ) < 96 then k0_pay33 (F := Ideal) Z A B x else 0 := by
  have e : ∀ l < 128, IntOp.andi (IntOp.cmpi .sge (BitVec.ofNat 32 l) (64#32))
      (IntOp.cmpi .slt (BitVec.ofNat 32 l) (96#32)) = if 64 ≤ l ∧ l < 96 then 1#1 else 0#1 := by
    decide +kernel
  pointwise [k0_pay35]
  rw [e _ (x 1).isLt]
  split_ifs <;> rfl

/-! ## One row at a grid point -/

/-- The normalised row. -/
def row (r : Fin 256) : Fin 1024 → EReal :=
  Rows.nrm (Ideal.ofBits .f32 0x44800000#32) (fun d => iblk m c 0 t (ix2 r d)) (fun d => iblk m c 1 t (ix2 0 d))

/-- The row times the rearranged input weights. -/
def col (r : Fin 256) (j : Fin 4736) : EReal := ∑ k : Fin 1024, row m c t r k * iblk m c 2 t (ix2 k j)

/-- The low-rank query row. -/
def low (r : Fin 256) : Fin 384 → EReal :=
  Rows.nrm (Ideal.ofBits .f32 0x43C00000#32) (fun i => col m c t r ⟨3840 + i.val, by omega⟩)
    (fun d => iblk m c 3 t (ix2 0 d))

/-- The latent row. -/
def lat (r : Fin 256) : Fin 256 → EReal :=
  Rows.nrm (Ideal.ofBits .f32 0x43800000#32) (fun i => col m c t r ⟨4224 + i.val, by omega⟩)
    (fun d => iblk m c 5 t (ix2 0 d))

/-- The rotated key row, by the tables. -/
def turn (r : Fin 256) (l : Fin 128) : EReal :=
  col m c t r ⟨4480 + l.val, by omega⟩ * iblk m c 9 t (ix2 r l)
    + col m c t r ⟨4608 + l.val, by omega⟩ * iblk m c 10 t (ix2 r l)

end Cert.ProjIdeal.Value

end
-- ==== Proof.Proj.Gates.lean ====
/- The gates and the recurrent columns the projection kernel writes at a grid point. -/
module

public import proofs.«01_k».proof.Proof.Gen.ProjIdeal.Value
public import proofs.«01_k».proof.Proof.Proj.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-- The gates. -/
theorem out11 (r : Fin 256) (j : Fin 2048) : (dats m 0 c).after 11 t (ix2 r j)
    = Ideal.logistic (col m c t r ⟨j.val, by omega⟩) := by
  rw [after0_11]; simp only [outsAt0]; frame_out
  canon_tiles x h
  all_goals (change (r : ℕ) = _ at h0; change (j : ℕ) = _ at h1)
  all_goals (pointwise [k0_pay4, k0_pay5, k0_pay6, k0_pay7, h_at, col, row]; blk_point [] <;> omega)

/-- The recurrent branch's columns. -/
theorem out12 (r : Fin 256) (j : Fin 1792) : (dats m 0 c).after 12 t (ix2 r j)
    = col m c t r ⟨2048 + j.val, by omega⟩ := by
  rw [after0_12]; simp only [outsAt0]; frame_out
  canon_tiles x h
  all_goals (change (r : ℕ) = _ at h0; change (j : ℕ) = _ at h1)
  all_goals (pointwise [k0_pay8, k0_pay9, k0_pay10, k0_pay11, k0_pay12, k0_pay13, k0_pay14, h_at, col, row]; blk_point [] <;> omega)

end Cert.ProjIdeal.Value

end
-- ==== Proof.Proj.Query.lean ====
/- The queries the projection kernel writes at a grid point. -/
module

public import proofs.«01_k».proof.Proof.Gen.ProjIdeal.Value
public import proofs.«01_k».proof.Proof.Proj.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-- The queries. -/
theorem out13 (r : Fin 256) (j : Fin 1024) : (dats m 0 c).after 13 t (ix2 r j)
    = (∑ k : Fin 384, low m c t r k * iblk m c 4 t (ix2 k ⟨j.val, by omega⟩))
          * iblk m c 7 t (ix2 r ⟨j.val % 128, by omega⟩)
        + (∑ k : Fin 384, low m c t r k * iblk m c 4 t (ix2 k ⟨1024 + j.val, by omega⟩))
          * iblk m c 8 t (ix2 r ⟨j.val % 128, by omega⟩) := by
  rw [after0_13]; simp only [outsAt0]; frame_out
  canon_tiles x h
  all_goals (change (r : ℕ) = _ at h0; change (j : ℕ) = _ at h1)
  all_goals
    pointwise [k0_pay16, k0_pay17, k0_pay18, k0_pay19, k0_pay20, k0_pay21, k0_pay22, k0_pay23, k0_pay24,
      k0_pay25, k0_pay26, k0_pay27, k0_pay28, k0_pay29, k0_pay30, qn_at, h_at, low, col, row]
    blk_point [] <;> omega

end Cert.ProjIdeal.Value

end
-- ==== Proof.Proj.Keys.lean ====
/- The cache rows, keys and values the projection kernel writes at a grid point. -/
module

public import proofs.«01_k».proof.Proof.Gen.ProjIdeal.Value
public import proofs.«01_k».proof.Proof.Proj.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-- The cache rows. -/
theorem out14 (r : Fin 256) (j : Fin 288) : (dats m 0 c).after 14 t (ix2 r j)
    = if h : j.val < 256 then lat m c t r ⟨j.val, h⟩ else turn m c t r ⟨j.val - 256, by omega⟩ := by
  rw [after0_14]; simp only [outsAt0]; frame_out
  canon_tiles x h using (by
    by_cases g : j.val < 256
    · refine ⟨_, List.mem_cons_of_mem _ List.mem_cons_self, ?_⟩
      rw [Rect.mem_set_unit]
      intro a
      match a with
      | ⟨0, _⟩ => show 0 ≤ r.val ∧ r.val < 0 + 256; omega
      | ⟨1, _⟩ => show 0 ≤ j.val ∧ j.val < 0 + 256; omega
    · refine ⟨_, List.mem_cons_self, ?_⟩
      rw [Rect.mem_set_unit]
      intro a
      match a with
      | ⟨0, _⟩ => show 0 ≤ r.val ∧ r.val < 0 + 256; omega
      | ⟨1, _⟩ => show 256 ≤ j.val ∧ j.val < 256 + 32; omega)
  all_goals (change (r : ℕ) = _ at h0; change (j : ℕ) = _ at h1)
  case piece0 =>
    rw [dif_neg (by omega)]
    pointwise [k0_pay34, k0_pay32, kr_at, h_at, turn, col, row]
    blk_point [] <;> omega
  case piece1 =>
    have hj : j.val < 256 := by omega
    have hx : x = ix2 r ⟨j.val, hj⟩ := by
      funext a
      apply Fin.ext
      match a with
      | ⟨0, _⟩ => exact h0.symm
      | ⟨1, _⟩ => exact h1.symm
    rw [dif_pos hj, hx]
    pointwise [ckv_at, h_at, lat, col, row]

/-- The values. -/
theorem out16 (r : Fin 256) (j : Fin 512) : (dats m 0 c).after 16 t (ix2 r j)
    = ∑ k : Fin 256, lat m c t r k * iblk m c 6 t (ix2 k ⟨1024 + j.val, by omega⟩) := by
  rw [after0_16]; simp only [outsAt0]; frame_out
  pointwise [k0_pay2, k0_pay36, ckv_at, h_at, lat, col, row]

set_option maxHeartbeats 800000 in
/-- The keys. -/
theorem out15 (r : Fin 256) (j : Fin 1024) : (dats m 0 c).after 15 t (ix2 r j)
    = (∑ k : Fin 256, lat m c t r k * iblk m c 6 t (ix2 k ⟨j.val, by omega⟩))
        + if 64 ≤ j.val % 128 ∧ j.val % 128 < 96 then turn m c t r ⟨j.val % 128, by omega⟩ else 0 := by
  rw [after0_15]; simp only [outsAt0]; frame_out
  canon_tiles x h
  all_goals (change (r : ℕ) = _ at h0; change (j : ℕ) = _ at h1)
  all_goals
    have hx : x = ix2 r ⟨j.val % 128, by omega⟩ := by
      funext a
      apply Fin.ext
      match a with
      | ⟨0, _⟩ => exact h0.symm
      | ⟨1, _⟩ => show (x 1 : ℕ) = j.val % 128; omega
    rw [hx]
    pointwise [k0_pay1, k0_pay45, k0_pay44, k0_pay36, k0_pay32, k0_pay37, k0_pay38, k0_pay39, k0_pay40, k0_pay41,
      k0_pay42, k0_pay43, krHead_at, kr_at, ckv_at, h_at]
  case piece7 =>
    simp only [show j.val % 128 = j.val by omega, lat, turn, col, row, show 4480 + (128 + j.val) = 4608 + j.val by omega]
  case piece6 =>
    simp only [show 4480 + (128 + j.val % 128) = 4608 + j.val % 128 by omega]
    simp only [show 128 + j.val % 128 = j.val by omega, lat, turn, col, row,
      show 4480 + (128 + j.val % 128) = 4608 + j.val % 128 by omega]
  case piece5 =>
    simp only [show 256 + j.val % 128 = j.val by omega, lat, turn, col, row,
      show 4480 + (128 + j.val % 128) = 4608 + j.val % 128 by omega]
  case piece4 =>
    simp only [show 384 + j.val % 128 = j.val by omega, lat, turn, col, row,
      show 4480 + (128 + j.val % 128) = 4608 + j.val % 128 by omega]
  case piece3 =>
    simp only [show 512 + j.val % 128 = j.val by omega, lat, turn, col, row,
      show 4480 + (128 + j.val % 128) = 4608 + j.val % 128 by omega]
  case piece2 =>
    simp only [show 640 + j.val % 128 = j.val by omega, lat, turn, col, row,
      show 4480 + (128 + j.val % 128) = 4608 + j.val % 128 by omega]
  case piece1 =>
    simp only [show 768 + j.val % 128 = j.val by omega, lat, turn, col, row,
      show 4480 + (128 + j.val % 128) = 4608 + j.val % 128 by omega]
  case piece0 =>
    simp only [show 896 + j.val % 128 = j.val by omega, lat, turn, col, row,
      show 4480 + (128 + j.val % 128) = 4608 + j.val % 128 by omega]

end Cert.ProjIdeal.Value

end
-- ==== Proof.Proj.Point.lean ====
/- What the projection kernel computes at a row of a grid point, by the row's scalar formulas. -/
module

public import proofs.«01_k».proof.Proof.Gen.ProjIdeal.Value
public import proofs.«01_k».proof.Proof.Proj.Weights
public import proofs.«01_k».proof.Proof.Proj.Tables
public import proofs.«01_k».proof.Proof.Proj.Gates
public import proofs.«01_k».proof.Proof.Proj.Query
public import proofs.«01_k».proof.Proof.Proj.Keys

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD) (t : Fin cfg0.N)

/-! ## A row of the prompt -/

/-- The combined columns of a row. -/
def cols (i : Fin 16384) : Fin 4512 → EReal :=
  Rows.columns (fun d => m ((c : Thread nD τ).loc main_arg0) (ix3 ⟨i.val / 2048, by omega⟩ ⟨i.val % 2048, by omega⟩ d))
    (fun d => m ((c : Thread nD τ).loc main_arg1) (ix2 0 d)) (fun k j => m ((c : Thread nD τ).loc main_arg2) (ix3 0 k j))

/-- The normalised low-rank query row. -/
def lowRank (i : Fin 16384) : Fin 384 → EReal :=
  Rows.lowRank (cols m c i) (fun d => m ((c : Thread nD τ).loc main_arg3) (ix2 0 d))

/-- The normalised latent row. -/
def latent (i : Fin 16384) : Fin 256 → EReal :=
  Rows.latent (cols m c i) (fun d => m ((c : Thread nD τ).loc main_arg5) (ix2 0 d))

/-- A row's position, counted after the meta tokens. -/
abbrev place (i : Fin 16384) : BitVec 32 := IntOp.addi (16#32) (BitVec.ofNat 32 (i.val % 2048))

/-- The row of the prompt at a row of a grid point's block. -/
abbrev rowOf (r : Fin 256) : Fin 16384 :=
  ⟨t.val * 256 + r.val, by have := lt_of_lt_of_eq t.isLt (by decide : cfg0.N = 64); omega⟩

theorem place_eq (r : Fin 256) : pos t r = place (rowOf t r) := by
  unfold pos place rowOf
  rw [show (t.val * 256 + r.val) % 2048 = t.val % 8 * 256 + r.val by omega]

/-! ## The block's columns are the row's -/

/-- The block's normalised row is the row's. -/
theorem row_eq (r : Fin 256) : row m c t r = Rows.nrm (Ideal.ofBits .f32 0x44800000#32)
    (fun d => m ((c : Thread nD τ).loc main_arg0)
      (ix3 ⟨(rowOf t r).val / 2048, by omega⟩ ⟨(rowOf t r).val % 2048, by omega⟩ d))
    (fun d => m ((c : Thread nD τ).loc main_arg1) (ix2 0 d)) := by
  unfold row
  simp only [blk0, blk1]

/-- The gate columns. -/
theorem col_gate (r : Fin 256) (j : Fin 2048) :
    col m c t r ⟨j.val, by omega⟩ = cols m c (rowOf t r) ⟨2464 + j.val, by omega⟩ := by
  unfold col cols Rows.columns Rows.times
  simp only [win_gate, row_eq]

/-- The recurrent branch's columns. -/
theorem col_rec (r : Fin 256) (j : Fin 1792) :
    col m c t r ⟨2048 + j.val, by omega⟩ = cols m c (rowOf t r) ⟨672 + j.val, by omega⟩ := by
  unfold col cols Rows.columns Rows.times
  simp only [win_rec, row_eq]

/-- The query's low-rank columns. -/
theorem col_lowRank (r : Fin 256) (j : Fin 384) :
    col m c t r ⟨3840 + j.val, by omega⟩ = cols m c (rowOf t r) ⟨j.val, by omega⟩ := by
  unfold col cols Rows.columns Rows.times
  simp only [win_lowRank, row_eq]

/-- The latent columns. -/
theorem col_latent (r : Fin 256) (j : Fin 256) :
    col m c t r ⟨4224 + j.val, by omega⟩ = cols m c (rowOf t r) ⟨384 + j.val, by omega⟩ := by
  unfold col cols Rows.columns Rows.times
  simp only [win_latent, row_eq]

/-- The rotary columns in place. -/
theorem col_turn (r : Fin 256) (l : Fin 128) (h : l.val % 64 < 32) :
    col m c t r ⟨4480 + l.val, by omega⟩ = cols m c (rowOf t r) ⟨640 + l.val % 64, by omega⟩ := by
  unfold col cols Rows.columns Rows.times
  simp only [win_turn m c t _ l h, row_eq]

/-- The rotary columns with their halves exchanged: the first half. -/
theorem col_turnLow (r : Fin 256) (l : Fin 128) (h : l.val % 64 < 16) :
    col m c t r ⟨4608 + l.val, by omega⟩ = cols m c (rowOf t r) ⟨656 + l.val % 64, by omega⟩ := by
  unfold col cols Rows.columns Rows.times
  simp only [win_turnLow m c t _ l h, row_eq]

/-- The rotary columns with their halves exchanged: the second half. -/
theorem col_turnHigh (r : Fin 256) (l : Fin 128) (h : 16 ≤ l.val % 64) (h' : l.val % 64 < 32) :
    col m c t r ⟨4608 + l.val, by omega⟩ = cols m c (rowOf t r) ⟨640 + (l.val % 64 - 16), by omega⟩ := by
  unfold col cols Rows.columns Rows.times
  simp only [win_turnHigh m c t _ l h h', row_eq]

theorem low_eq (r : Fin 256) : low m c t r = lowRank m c (rowOf t r) := by
  unfold low lowRank Rows.lowRank
  simp only [col_lowRank, blk3]

theorem lat_eq (r : Fin 256) : lat m c t r = latent m c (rowOf t r) := by
  unfold lat latent Rows.latent
  simp only [col_latent, blk5]

/-- The tables turn the key columns by the row's position. -/
theorem turn_eq (r : Fin 256) (l : Fin 128) (h : l.val % 64 < 32) :
    turn m c t r l = Rows.keyTurn (cols m c (rowOf t r)) (place (rowOf t r)) ⟨l.val % 64, h⟩ := by
  unfold turn Rows.keyTurn
  rw [col_turn m c t r l h, tab_cosk, tab_sink, place_eq]
  by_cases g : l.val % 64 < 16
  · rw [col_turnLow m c t r l g]
    simp only [g, if_true, ↓reduceDIte]
    rw [mul_neg, sub_eq_add_neg]
  · rw [col_turnHigh m c t r l (by omega) h]
    simp only [g, h, if_true, if_false, ↓reduceDIte]
    rw [add_comm]
    simp only [show 656 + (l.val % 64 - 16) = 640 + l.val % 64 by omega]

/-! ## What a grid point stores -/

/-- The gates. -/
theorem gate_point (r : Fin 256) (j : Fin 2048) : (dats m 0 c).after 11 t (ix2 r j)
    = Ideal.logistic (cols m c (rowOf t r) ⟨2464 + j.val, by omega⟩) := by
  rw [out11, col_gate]

/-- The recurrent branch's columns. -/
theorem rec_point (r : Fin 256) (j : Fin 1792) : (dats m 0 c).after 12 t (ix2 r j)
    = cols m c (rowOf t r) ⟨672 + j.val, by omega⟩ := by
  rw [out12, col_rec]

/-- The cache rows. -/
theorem cache_point (r : Fin 256) (j : Fin 288) : (dats m 0 c).after 14 t (ix2 r j)
    = Rows.cacheRow (latent m c (rowOf t r)) (Rows.keyTurn (cols m c (rowOf t r)) (place (rowOf t r))) j := by
  rw [out14, lat_eq]
  unfold Rows.cacheRow
  by_cases h : j.val < 256
  · simp only [h, ↓reduceDIte]
  · simp only [h, ↓reduceDIte]
    rw [turn_eq m c t r ⟨j.val - 256, by omega⟩ (by show (j.val - 256) % 64 < 32; omega)]
    simp only [show (j.val - 256) % 64 = j.val - 256 by omega]

/-- The values. -/
theorem value_point (r : Fin 256) (j : Fin 512) : (dats m 0 c).after 16 t (ix2 r j)
    = ∑ k : Fin 256, latent m c (rowOf t r) k * m ((c : Thread nD τ).loc main_arg7) (ix3 0 k j) := by
  rw [out16, lat_eq]
  simp only [wukv_value]

/-- The keys. -/
theorem keys_point (r : Fin 256) (j : Fin 1024) : (dats m 0 c).after 15 t (ix2 r j)
    = Rows.keys (Rows.times (latent m c (rowOf t r)) (wk m c))
        (Rows.keyTurn (cols m c (rowOf t r)) (place (rowOf t r))) j := by
  rw [out15, lat_eq]
  simp only [wukv_key]
  unfold Rows.keys Rows.times
  by_cases h : j.val % 128 < 64
  · simp only [h, ↓reduceDIte]
    rw [if_neg (by omega), add_zero]
  by_cases g : j.val % 128 < 96
  · have g' : 64 ≤ j.val % 128 ∧ j.val % 128 < 96 := ⟨by omega, g⟩
    simp only [h, g, g', ↓reduceDIte, mul_zero, Finset.sum_const_zero, zero_add, and_self, if_true]
    rw [turn_eq m c t r ⟨j.val % 128, by omega⟩ (by show j.val % 128 % 64 < 32; omega)]
    simp only [show j.val % 128 % 64 = j.val % 128 - 64 by omega]
  · have g' : ¬ (64 ≤ j.val % 128 ∧ j.val % 128 < 96) := by omega
    rw [if_neg g']
    simp only [h, g, ↓reduceDIte, mul_zero, Finset.sum_const_zero, add_zero]

/-- The queries. -/
theorem query_point (r : Fin 256) (j : Fin 1024) : (dats m 0 c).after 13 t (ix2 r j)
    = Rows.query (Rows.times (lowRank m c (rowOf t r)) (wq m c)) (place (rowOf t r)) j := by
  rw [out13, low_eq, tab_cosq, tab_sinq, place_eq]
  simp only [wuq_plain]
  unfold Rows.query Rows.times
  by_cases h : j.val % 128 < 64
  · have h' : j.val % 128 < 96 := by omega
    simp only [h, h', ↓reduceDIte, if_true, mul_one, mul_zero, add_zero]
  by_cases g : j.val % 128 < 80
  · have h' : j.val % 128 < 96 := by omega
    simp only [wuq_turnLow m c t _ j (by omega) g]
    simp only [h, g, h', ↓reduceDIte, if_true, if_false]
    rw [mul_neg, sub_eq_add_neg]
  by_cases f : j.val % 128 < 96
  · simp only [wuq_turnHigh m c t _ j (by omega) f]
    simp only [h, g, f, ↓reduceDIte, if_true, if_false]
    rw [add_comm]
  · simp only [h, g, f, ↓reduceDIte, if_false, mul_zero, add_zero]

end Cert.ProjIdeal.Value

end
-- ==== Proof.Proj.Arrays.lean ====
/- The arrays after the projection kernel's run, whole. -/
module

public import proofs.«01_k».proof.Proof.Gen.ProjIdeal.Value
public import proofs.«01_k».proof.Proof.Gen.ProjIdeal.Frame
public import proofs.«01_k».proof.Proof.Proj.Point
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD)

/-- The gates of one row. -/
def gateEntry (i : Fin 16384) (j : Fin 2048) : EReal :=
  Ideal.logistic (cols m c i ⟨2464 + j.val, by omega⟩)

/-- The gates of all rows. -/
def gateRows : FVec Ideal S16384x2048 .f32 := fun y =>
  gateEntry m c (y 0) (y 1)

/-- After the run the array holds the gates of all rows. -/
theorem gate_final : (dats m 0 c).arrAt 11 (cfgs 0).N = gateRows m c := by
  refine (dats m 0 c).arrAt_eq_of_covers 11 _ (by decide +kernel) fun t _ y => ?_
  have hy : y = ix2 (y 0 : Fin 256) (y 1 : Fin 2048) := by
    funext a
    match a with
    | ⟨0, _⟩ => rfl
    | ⟨1, _⟩ => rfl
  rw [hy]
  refine (gate_point m c t (y 0) (y 1)).trans ?_
  have e0 : (((cfg0.win 11).blk t).view.emb (ix2 (y 0 : Fin 256) (y 1 : Fin 2048)) 0).val = t.val * 256 + (y 0).val := by
    blk_simp [idx t]
  have e1 : (((cfg0.win 11).blk t).view.emb (ix2 (y 0 : Fin 256) (y 1 : Fin 2048)) 1).val = (y 1).val := by
    blk_simp [idx t]
  exact congrArg₂ (gateEntry m c) (Fin.ext e0.symm) (Fin.ext e1.symm)

/-- The recurrent columns of one row. -/
def recEntry (i : Fin 16384) (j : Fin 1792) : EReal :=
  cols m c i ⟨672 + j.val, by omega⟩

/-- The recurrent columns of all rows. -/
def recRows : FVec Ideal S16384x1792 .f32 := fun y =>
  recEntry m c (y 0) (y 1)

/-- After the run the array holds the recurrent columns of all rows. -/
theorem rec_final : (dats m 0 c).arrAt 12 (cfgs 0).N = recRows m c := by
  refine (dats m 0 c).arrAt_eq_of_covers 12 _ (by decide +kernel) fun t _ y => ?_
  have hy : y = ix2 (y 0 : Fin 256) (y 1 : Fin 1792) := by
    funext a
    match a with
    | ⟨0, _⟩ => rfl
    | ⟨1, _⟩ => rfl
  rw [hy]
  refine (rec_point m c t (y 0) (y 1)).trans ?_
  have e0 : (((cfg0.win 12).blk t).view.emb (ix2 (y 0 : Fin 256) (y 1 : Fin 1792)) 0).val = t.val * 256 + (y 0).val := by
    blk_simp [idx t]
  have e1 : (((cfg0.win 12).blk t).view.emb (ix2 (y 0 : Fin 256) (y 1 : Fin 1792)) 1).val = (y 1).val := by
    blk_simp [idx t]
  exact congrArg₂ (recEntry m c) (Fin.ext e0.symm) (Fin.ext e1.symm)

/-- The queries of one row. -/
def queryEntry (i : Fin 16384) (j : Fin 1024) : EReal :=
  Rows.query (Rows.times (lowRank m c i) (wq m c)) (place i) j

/-- The queries of all rows. -/
def queryRows : FVec Ideal S16384x1024 .f32 := fun y =>
  queryEntry m c (y 0) (y 1)

/-- After the run the array holds the queries of all rows. -/
theorem query_final : (dats m 0 c).arrAt 13 (cfgs 0).N = queryRows m c := by
  refine (dats m 0 c).arrAt_eq_of_covers 13 _ (by decide +kernel) fun t _ y => ?_
  have hy : y = ix2 (y 0 : Fin 256) (y 1 : Fin 1024) := by
    funext a
    match a with
    | ⟨0, _⟩ => rfl
    | ⟨1, _⟩ => rfl
  rw [hy]
  refine (query_point m c t (y 0) (y 1)).trans ?_
  have e0 : (((cfg0.win 13).blk t).view.emb (ix2 (y 0 : Fin 256) (y 1 : Fin 1024)) 0).val = t.val * 256 + (y 0).val := by
    blk_simp [idx t]
  have e1 : (((cfg0.win 13).blk t).view.emb (ix2 (y 0 : Fin 256) (y 1 : Fin 1024)) 1).val = (y 1).val := by
    blk_simp [idx t]
  exact congrArg₂ (queryEntry m c) (Fin.ext e0.symm) (Fin.ext e1.symm)

/-- The cache rows of one row. -/
def cacheEntry (i : Fin 16384) (j : Fin 288) : EReal :=
  Rows.cacheRow (latent m c i) (Rows.keyTurn (cols m c i) (place i)) j

/-- The cache rows of all rows. -/
def cacheRows : FVec Ideal S16384x288 .f32 := fun y =>
  cacheEntry m c (y 0) (y 1)

/-- After the run the array holds the cache rows of all rows. -/
theorem cache_final : (dats m 0 c).arrAt 14 (cfgs 0).N = cacheRows m c := by
  refine (dats m 0 c).arrAt_eq_of_covers 14 _ (by decide +kernel) fun t _ y => ?_
  have hy : y = ix2 (y 0 : Fin 256) (y 1 : Fin 288) := by
    funext a
    match a with
    | ⟨0, _⟩ => rfl
    | ⟨1, _⟩ => rfl
  rw [hy]
  refine (cache_point m c t (y 0) (y 1)).trans ?_
  have e0 : (((cfg0.win 14).blk t).view.emb (ix2 (y 0 : Fin 256) (y 1 : Fin 288)) 0).val = t.val * 256 + (y 0).val := by
    blk_simp [idx t]
  have e1 : (((cfg0.win 14).blk t).view.emb (ix2 (y 0 : Fin 256) (y 1 : Fin 288)) 1).val = (y 1).val := by
    blk_simp [idx t]
  exact congrArg₂ (cacheEntry m c) (Fin.ext e0.symm) (Fin.ext e1.symm)

/-- The keys of one row. -/
def keysEntry (i : Fin 16384) (j : Fin 1024) : EReal :=
  Rows.keys (Rows.times (latent m c i) (wk m c)) (Rows.keyTurn (cols m c i) (place i)) j

/-- The keys of all rows. -/
def keysRows : FVec Ideal S16384x1024 .bf16 := fun y =>
  keysEntry m c (y 0) (y 1)

/-- After the run the array holds the keys of all rows. -/
theorem keys_final : (dats m 0 c).arrAt 15 (cfgs 0).N = keysRows m c := by
  refine (dats m 0 c).arrAt_eq_of_covers 15 _ (by decide +kernel) fun t _ y => ?_
  have hy : y = ix2 (y 0 : Fin 256) (y 1 : Fin 1024) := by
    funext a
    match a with
    | ⟨0, _⟩ => rfl
    | ⟨1, _⟩ => rfl
  rw [hy]
  refine (keys_point m c t (y 0) (y 1)).trans ?_
  have e0 : (((cfg0.win 15).blk t).view.emb (ix2 (y 0 : Fin 256) (y 1 : Fin 1024)) 0).val = t.val * 256 + (y 0).val := by
    blk_simp [idx t]
  have e1 : (((cfg0.win 15).blk t).view.emb (ix2 (y 0 : Fin 256) (y 1 : Fin 1024)) 1).val = (y 1).val := by
    blk_simp [idx t]
  exact congrArg₂ (keysEntry m c) (Fin.ext e0.symm) (Fin.ext e1.symm)

/-- The values of one row. -/
def valueEntry (i : Fin 16384) (j : Fin 512) : EReal :=
  ∑ k : Fin 256, latent m c i k * m ((c : Thread nD τ).loc main_arg7) (ix3 0 k j)

/-- The values of all rows. -/
def valueRows : FVec Ideal S16384x512 .bf16 := fun y =>
  valueEntry m c (y 0) (y 1)

/-- After the run the array holds the values of all rows. -/
theorem value_final : (dats m 0 c).arrAt 16 (cfgs 0).N = valueRows m c := by
  refine (dats m 0 c).arrAt_eq_of_covers 16 _ (by decide +kernel) fun t _ y => ?_
  have hy : y = ix2 (y 0 : Fin 256) (y 1 : Fin 512) := by
    funext a
    match a with
    | ⟨0, _⟩ => rfl
    | ⟨1, _⟩ => rfl
  rw [hy]
  refine (value_point m c t (y 0) (y 1)).trans ?_
  have e0 : (((cfg0.win 16).blk t).view.emb (ix2 (y 0 : Fin 256) (y 1 : Fin 512)) 0).val = t.val * 256 + (y 0).val := by
    blk_simp [idx t]
  have e1 : (((cfg0.win 16).blk t).view.emb (ix2 (y 0 : Fin 256) (y 1 : Fin 512)) 1).val = (y 1).val := by
    blk_simp [idx t]
  exact congrArg₂ (valueEntry m c) (Fin.ext e0.symm) (Fin.ext e1.symm)

end Cert.ProjIdeal.Value

end
-- ==== Proof.Proj.Run.lean ====
/- The projection kernel's run: its result arrays, its arguments. -/
module

public import proofs.«01_k».proof.Proof.Gen.ProjIdeal.Value
public import proofs.«01_k».proof.Proof.Gen.ProjIdeal.Frame
public import proofs.«01_k».proof.Proof.Proj.Arrays
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)
variable (c : Dev nD)

/-- The final state holds the gates. -/
theorem gate_mem (r : PUnit × MemSt nD τ sig (Elt Ideal)) (h : Pipeline.FramePost cfgs (dats m) 0 (V m) r) :
    r.2.mem ((c.tc : Thread nD τ).loc main_v74_0) = gateRows m c :=
  have e : r.2.mem ((c.tc : Thread nD τ).loc main_v74_0) = (dats m 0 c).arrAt 11 (cfgs 0).N := (h c).1 11
  e.trans (gate_final m c)

/-- The final state holds the recurrent columns. -/
theorem rec_mem (r : PUnit × MemSt nD τ sig (Elt Ideal)) (h : Pipeline.FramePost cfgs (dats m) 0 (V m) r) :
    r.2.mem ((c.tc : Thread nD τ).loc main_v74_1) = recRows m c :=
  have e : r.2.mem ((c.tc : Thread nD τ).loc main_v74_1) = (dats m 0 c).arrAt 12 (cfgs 0).N := (h c).1 12
  e.trans (rec_final m c)

/-- The final state holds the queries. -/
theorem query_mem (r : PUnit × MemSt nD τ sig (Elt Ideal)) (h : Pipeline.FramePost cfgs (dats m) 0 (V m) r) :
    r.2.mem ((c.tc : Thread nD τ).loc main_v74_2) = queryRows m c :=
  have e : r.2.mem ((c.tc : Thread nD τ).loc main_v74_2) = (dats m 0 c).arrAt 13 (cfgs 0).N := (h c).1 13
  e.trans (query_final m c)

/-- The final state holds the cache rows. -/
theorem cache_mem (r : PUnit × MemSt nD τ sig (Elt Ideal)) (h : Pipeline.FramePost cfgs (dats m) 0 (V m) r) :
    r.2.mem ((c.tc : Thread nD τ).loc main_v74_3) = cacheRows m c :=
  have e : r.2.mem ((c.tc : Thread nD τ).loc main_v74_3) = (dats m 0 c).arrAt 14 (cfgs 0).N := (h c).1 14
  e.trans (cache_final m c)

/-- The final state holds the keys. -/
theorem keys_mem (r : PUnit × MemSt nD τ sig (Elt Ideal)) (h : Pipeline.FramePost cfgs (dats m) 0 (V m) r) :
    r.2.mem ((c.tc : Thread nD τ).loc main_v74_4) = keysRows m c :=
  have e : r.2.mem ((c.tc : Thread nD τ).loc main_v74_4) = (dats m 0 c).arrAt 15 (cfgs 0).N := (h c).1 15
  e.trans (keys_final m c)

/-- The final state holds the values. -/
theorem value_mem (r : PUnit × MemSt nD τ sig (Elt Ideal)) (h : Pipeline.FramePost cfgs (dats m) 0 (V m) r) :
    r.2.mem ((c.tc : Thread nD τ).loc main_v74_5) = valueRows m c :=
  have e : r.2.mem ((c.tc : Thread nD τ).loc main_v74_5) = (dats m 0 c).arrAt 16 (cfgs 0).N := (h c).1 16
  e.trans (value_final m c)

/-- The kernel runs: each result array holds its rows, the arguments stand. -/
theorem run (ρ : Dev nD → PrngReg) :
    θ_run defs (onTc (τ := τ) (main (F := Ideal))) ⟨m, fun _ => 0, ρ⟩ fun r => ∀ c : Dev nD,
      r.2.mem ((c.tc : Thread nD τ).loc main_v74_0) = gateRows m c
      ∧ r.2.mem ((c.tc : Thread nD τ).loc main_v74_1) = recRows m c
      ∧ r.2.mem ((c.tc : Thread nD τ).loc main_v74_2) = queryRows m c
      ∧ r.2.mem ((c.tc : Thread nD τ).loc main_v74_3) = cacheRows m c
      ∧ r.2.mem ((c.tc : Thread nD τ).loc main_v74_4) = keysRows m c
      ∧ r.2.mem ((c.tc : Thread nD τ).loc main_v74_5) = valueRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have h₀ : θ_run defs (onTc (τ := τ) (main (F := Ideal))) ⟨m, fun _ => 0, ρ⟩ (Pipeline.FramePost cfgs (dats m) 0 (V m)) :=
    run_main m ρ
  refine θ_run_mono (θ_run_and h₀ (unchanged m ρ)) fun r h c => ?_
  exact ⟨gate_mem m c r h.1, rec_mem m c r h.1, query_mem m c r h.1, cache_mem m c r h.1, keys_mem m c r h.1,
    value_mem m c r h.1, h.2 c⟩

end Cert.ProjIdeal.Value

end
-- ==== Proof.Proj.Reference.lean ====
/- The plain projection's results, entry by entry. -/
module

public import proofs.«01_k».proof.Proof.Gen.ProjReferenceIdeal.Run
public import proofs.«01_k».proof.Proof.Proj.Rows
public import Idealize.ShloMosaic.Lib.IdealHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.ProjReferenceIdeal.Value

variable (m : (ℓ : Loc nD τ sig) → Buf (Elt Ideal) ℓ)
variable (c : Dev nD)

/-- A buffer after the operations. -/
abbrev after (b : Ref sig .tc) := StableHlo.after (ops (F := Ideal)) (fun b => m (c, b)) (Proc.tc.devRef b)

/-- An argument's contents. -/
abbrev arg (b : Ref sig .tc) := m (c, Proc.tc.devRef b)

/-- The combined columns of a row of the prompt. -/
def cols (i : Fin 16384) : Fin 4512 → EReal :=
  Rows.columns (fun d => arg m c main_arg0 (ix3 ⟨i.val / 2048, by omega⟩ ⟨i.val % 2048, by omega⟩ d))
    (fun d => arg m c main_arg1 (ix2 0 d)) (fun k j => arg m c main_arg2 (ix3 0 k j))

/-- The normalised low-rank query row. -/
def low (i : Fin 16384) : Fin 384 → EReal := Rows.lowRank (cols m c i) (fun d => arg m c main_arg3 (ix2 0 d))

/-- The normalised latent row. -/
def lat (i : Fin 16384) : Fin 256 → EReal := Rows.latent (cols m c i) (fun d => arg m c main_arg5 (ix2 0 d))

/-- A row's position, counted after the meta tokens. -/
abbrev place (i : Fin 16384) : BitVec 32 := IntOp.addi (16#32) (BitVec.ofNat 32 (i.val % 2048))

/-! ## The written-out sums, by name -/

/-- A row's entry. -/
abbrev in0 (i : Fin 16384) (d : Fin 1024) : EReal :=
  m (c, Proc.tc.devRef main_arg0) (ix3 ⟨i.val / 2048, by omega⟩ ⟨i.val % 2048, by omega⟩ d)

/-- The mixer's gain. -/
abbrev in1 (d : Fin 1024) : EReal := m (c, Proc.tc.devRef main_arg1) (ix2 0 d)

/-- The input weights. -/
abbrev in2 (k : Fin 1024) (j : Fin 4512) : EReal := m (c, Proc.tc.devRef main_arg2) (ix3 0 k j)

/-- The query's gain. -/
abbrev in3 (d : Fin 384) : EReal := m (c, Proc.tc.devRef main_arg3) (ix2 0 d)

/-- The latent's gain. -/
abbrev in5 (d : Fin 256) : EReal := m (c, Proc.tc.devRef main_arg5) (ix2 0 d)

theorem cols_eq (i : Fin 16384) (j : Fin 4512) : (∑ x : Fin 1024,
      in0 m c i x * Ideal.rsqrt (Ideal.div (∑ y : Fin 1024, in0 m c i y * in0 m c i y)
            (Ideal.ofBits .f32 0x44800000#32) + Ideal.ofBits .f32 0x358637BD#32)
        * in1 m c x * in2 m c x j) = cols m c i j := rfl

theorem low_eq (i : Fin 16384) (k : Fin 384) : cols m c i ⟨k.val, by omega⟩
      * Ideal.rsqrt (Ideal.div (∑ y : Fin 384, cols m c i ⟨y.val, by omega⟩ * cols m c i ⟨y.val, by omega⟩)
          (Ideal.ofBits .f32 0x43C00000#32) + Ideal.ofBits .f32 0x358637BD#32)
      * in3 m c k = low m c i k := rfl

theorem lat_eq (i : Fin 16384) (k : Fin 256) : cols m c i ⟨384 + k.val, by omega⟩
      * Ideal.rsqrt (Ideal.div (∑ y : Fin 256, cols m c i ⟨384 + y.val, by omega⟩ * cols m c i ⟨384 + y.val, by omega⟩)
          (Ideal.ofBits .f32 0x43800000#32) + Ideal.ofBits .f32 0x358637BD#32)
      * in5 m c k = lat m c i k := rfl

theorem angle_eq (p : BitVec 32) (i : ℕ) : (FloatOps.sitofp (F := Ideal) .f32 p : EReal)
      * Ideal.pow (Ideal.ofBits .f32 0x461C4000#32)
        (Ideal.div (-(Ideal.ofBits .f32 0x40000000#32 * (FloatOps.sitofp (F := Ideal) .f32 (BitVec.ofNat 32 i) : EReal)))
          (Ideal.ofBits .f32 0x42000000#32)) = Rows.angle p i := rfl

/-! ## The results -/

/-- The recurrent branch's columns. -/
theorem rec_at (i : Fin 16384) (j : Fin 1792) :
    after m c main_v129 (ix2 i j) = cols m c i ⟨672 + j.val, by omega⟩ := by
  after_reads_at
  simp only [cols_eq]

/-- The gates. -/
theorem gate_at (i : Fin 16384) (j : Fin 2048) :
    after m c main_v128 (ix2 i j) = Ideal.logistic (cols m c i ⟨2464 + j.val, by omega⟩) := by
  after_reads_at
  simp only [cols_eq]
  rfl

/-- The values. -/
theorem value_at (i : Fin 16384) (j : Fin 512) :
    after m c main_v135 (ix2 i j) = ∑ k : Fin 256, lat m c i k * arg m c main_arg7 (ix3 0 k j) := by
  after_reads_at
  simp only [cols_eq, lat_eq]

/-- The cache rows. -/
theorem cache_at (i : Fin 16384) (j : Fin 288) :
    after m c main_v131 (ix2 i j) = Rows.cacheRow (lat m c i) (Rows.keyTurn (cols m c i) (place i)) j := by
  after_reads_at
  pointwise [fn_main_v112, fn_main_v111]
  simp only [cols_eq, lat_eq, angle_eq]
  unfold Rows.cacheRow Rows.keyTurn
  by_cases h : j.val < 256
  · simp only [h, ↓reduceDIte]
    exact lat_eq m c i ⟨j.val, h⟩
  · simp only [h, ↓reduceDIte]
    by_cases g : j.val - 256 < 16
    · simp only [g, ↓reduceDIte, place]
      have e : (640 + (16 + (j.val - 256))) = 656 + (j.val - 256) := by omega
      simp only [e]
    · simp only [g, ↓reduceDIte, place]
      have e : (640 + (16 + (j.val - 256 - 16))) = 656 + (j.val - 256 - 16) := by omega
      simp only [e]

/-- The queries. -/
theorem query_at (i : Fin 16384) (j : Fin 1024) :
    after m c main_v130 (ix2 i j)
      = Rows.query (Rows.times (low m c i) (fun k e => arg m c main_arg4 (ix3 0 k e))) (place i) j := by
  after_reads_at
  pointwise [fn_main_v118]
  after_reads_at
  pointwise [fn_main_v81]
  simp only [cols_eq, low_eq, angle_eq]
  unfold Rows.query Rows.times
  by_cases h : j.val % 128 < 64
  · simp only [h, ↓reduceDIte, arg]
  by_cases g : j.val % 128 < 80
  · have e1 : j.val % 128 - 64 < 32 := by omega
    have e2 : j.val % 128 - 64 < 16 := by omega
    have e3 : 64 + (j.val % 128 - 64) = j.val % 128 := by omega
    have e4 : 64 + (16 + (j.val % 128 - 64)) = j.val % 128 + 16 := by omega
    simp only [h, g, e1, e2, e3, e4, ↓reduceDIte, arg, place]
  by_cases f : j.val % 128 < 96
  · have e1 : j.val % 128 - 64 < 32 := by omega
    have e2 : ¬ j.val % 128 - 64 < 16 := by omega
    have e3 : 64 + (j.val % 128 - 64 - 16) = j.val % 128 - 16 := by omega
    have e4 : 64 + (16 + (j.val % 128 - 64 - 16)) = j.val % 128 := by omega
    have e5 : j.val % 128 - 64 - 16 = j.val % 128 - 80 := by omega
    simp only [h, g, f, e1, e2, e3, e4, ↓reduceDIte, arg, place]
    simp only [e5]
  · have e1 : ¬ j.val % 128 - 64 < 32 := by omega
    simp only [h, g, f, e1, ↓reduceDIte]

/-- The keys. -/
theorem keys_at (i : Fin 16384) (j : Fin 1024) :
    after m c main_v133 (ix2 i j)
      = Rows.keys (Rows.times (lat m c i) (fun k e => arg m c main_arg6 (ix3 0 k e)))
          (Rows.keyTurn (cols m c i) (place i)) j := by
  after_reads_at
  pointwise [fn_main_v121]
  after_reads_at
  pointwise [fn_main_v111]
  simp only [cols_eq, lat_eq, angle_eq]
  unfold Rows.keys Rows.times Rows.keyTurn
  by_cases h : j.val % 128 < 64
  · simp only [h, ↓reduceDIte, arg]
  by_cases f : j.val % 128 < 96
  · have e1 : j.val % 128 - 64 < 32 := by omega
    by_cases g : j.val % 128 - 64 < 16
    · have e3 : 640 + (16 + (j.val % 128 - 64)) = 656 + (j.val % 128 - 64) := by omega
      simp only [h, f, g, e1, e3, ↓reduceDIte, place]
    · have e3 : 640 + (16 + (j.val % 128 - 64 - 16)) = 656 + (j.val % 128 - 64 - 16) := by omega
      simp only [h, f, g, e1, e3, ↓reduceDIte, place]
  · have e1 : ¬ j.val % 128 - 64 < 32 := by omega
    simp only [h, f, e1, ↓reduceDIte]

end Cert.ProjReferenceIdeal.Value

end
-- ==== Proof.Proj.Value.lean ====
/- The plain projection's results are the arrays the kernel leaves. -/
module

public import proofs.«01_k».proof.Proof.Gen.ProjIdeal.Value
public import proofs.«01_k».proof.Proof.Gen.ProjReferenceIdeal.Run
public import proofs.«01_k».proof.Proof.Proj.Run
public import proofs.«01_k».proof.Proof.Proj.Reference

@[expose] public section

set_option maxRecDepth 16384

noncomputable section

open Idealize.ShloMosaic Idealize.ShloMosaic.TcCoe Idealize.SL.Sem

namespace Cert.ProjReferenceIdeal.Value

open Cert.ProjReferenceIdeal Cert.ProjReferenceIdeal.Gen

/-- The plain projection runs: each result is what its operations leave, the arguments stand. -/
theorem run_after (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = after m c main_v128
      ∧ r.2.mem ((c.tc : Thread nD τ).loc main_v129) = after m c main_v129
      ∧ r.2.mem ((c.tc : Thread nD τ).loc main_v130) = after m c main_v130
      ∧ r.2.mem ((c.tc : Thread nD τ).loc main_v131) = after m c main_v131
      ∧ r.2.mem ((c.tc : Thread nD τ).loc main_v133) = after m c main_v133
      ∧ r.2.mem ((c.tc : Thread nD τ).loc main_v135) = after m c main_v135
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v128, h c main_v129, h c main_v130, h c main_v131, h c main_v133, h c main_v135,
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (StableHlo.run_seq scopedRefs_eq scopedSems_eq defs main (fun _ => ops) main_eq (fun _ => ops_sub) m ρ)

end Cert.ProjReferenceIdeal.Value

namespace Cert.ProjIdeal.Value

open Cert.ProjIdeal Cert.ProjIdeal.Gen

variable (m : (ℓ : Loc nD τ sig) → Buf (Elt Ideal) ℓ)
variable (m' : (ℓ : Loc Cert.ProjReferenceIdeal.nD Cert.ProjReferenceIdeal.τ Cert.ProjReferenceIdeal.sig) → Buf (Elt Ideal) ℓ)
variable (c : Dev nD)

/-- The memories agree on the rows, the mixer's gain and the input weights. -/
def Inputs : Prop :=
  (∀ a, m' (c, Proc.tc.devRef Cert.ProjReferenceIdeal.main_arg0) a = m ((c : Thread nD τ).loc main_arg0) a)
    ∧ (∀ a, m' (c, Proc.tc.devRef Cert.ProjReferenceIdeal.main_arg1) a = m ((c : Thread nD τ).loc main_arg1) a)
    ∧ ∀ a, m' (c, Proc.tc.devRef Cert.ProjReferenceIdeal.main_arg2) a = m ((c : Thread nD τ).loc main_arg2) a

/-- Then they give the same combined columns. -/
theorem cols_same (h : Inputs m m' c) (i : Fin 16384) :
    Cert.ProjReferenceIdeal.Value.cols m' c i = cols m c i := by
  unfold Cert.ProjReferenceIdeal.Value.cols cols
  simp only [Cert.ProjReferenceIdeal.Value.arg, h.1, h.2.1, h.2.2]

/-- With the query's gain, the same low-rank query row. -/
theorem lowRank_same (h : Inputs m m' c)
    (h₃ : ∀ a, m' (c, Proc.tc.devRef Cert.ProjReferenceIdeal.main_arg3) a = m ((c : Thread nD τ).loc main_arg3) a) (i : Fin 16384) :
    Cert.ProjReferenceIdeal.Value.low m' c i = lowRank m c i := by
  unfold Cert.ProjReferenceIdeal.Value.low lowRank
  simp only [cols_same m m' c h, Cert.ProjReferenceIdeal.Value.arg, h₃]

/-- With the latent's gain, the same latent row. -/
theorem latent_same (h : Inputs m m' c)
    (h₅ : ∀ a, m' (c, Proc.tc.devRef Cert.ProjReferenceIdeal.main_arg5) a = m ((c : Thread nD τ).loc main_arg5) a) (i : Fin 16384) :
    Cert.ProjReferenceIdeal.Value.lat m' c i = latent m c i := by
  unfold Cert.ProjReferenceIdeal.Value.lat latent
  simp only [cols_same m m' c h, Cert.ProjReferenceIdeal.Value.arg, h₅]

/-- The plain projection's gates are the kernel's. -/
theorem gate_same (h : Inputs m m' c) :
    Cert.ProjReferenceIdeal.Value.after m' c Cert.ProjReferenceIdeal.main_v128 = gateRows m c := by
  have e : ∀ (i : Fin 16384) (j : Fin 2048),
      Cert.ProjReferenceIdeal.Value.after m' c Cert.ProjReferenceIdeal.main_v128 (ix2 i j) = gateEntry m c i j := fun i j => by
    rw [Cert.ProjReferenceIdeal.Value.gate_at]
    unfold gateEntry
    rw [cols_same m m' c h]
  funext y
  have hy : y = ix2 (y 0 : Fin 16384) (y 1 : Fin 2048) := by
    funext a
    match a with
    | ⟨0, _⟩ => rfl
    | ⟨1, _⟩ => rfl
  rw [hy]
  exact e (y 0) (y 1)

/-- The plain projection's recurrent columns are the kernel's. -/
theorem rec_same (h : Inputs m m' c) :
    Cert.ProjReferenceIdeal.Value.after m' c Cert.ProjReferenceIdeal.main_v129 = recRows m c := by
  have e : ∀ (i : Fin 16384) (j : Fin 1792),
      Cert.ProjReferenceIdeal.Value.after m' c Cert.ProjReferenceIdeal.main_v129 (ix2 i j) = recEntry m c i j := fun i j => by
    rw [Cert.ProjReferenceIdeal.Value.rec_at]
    unfold recEntry
    rw [cols_same m m' c h]
  funext y
  have hy : y = ix2 (y 0 : Fin 16384) (y 1 : Fin 1792) := by
    funext a
    match a with
    | ⟨0, _⟩ => rfl
    | ⟨1, _⟩ => rfl
  rw [hy]
  exact e (y 0) (y 1)

/-- The plain projection's queries are the kernel's. -/
theorem query_same (h : Inputs m m' c)
    (h₃ : ∀ a, m' (c, Proc.tc.devRef Cert.ProjReferenceIdeal.main_arg3) a = m ((c : Thread nD τ).loc main_arg3) a)
    (h₄ : ∀ a, m' (c, Proc.tc.devRef Cert.ProjReferenceIdeal.main_arg4) a = m ((c : Thread nD τ).loc main_arg4) a) :
    Cert.ProjReferenceIdeal.Value.after m' c Cert.ProjReferenceIdeal.main_v130 = queryRows m c := by
  have e : ∀ (i : Fin 16384) (j : Fin 1024),
      Cert.ProjReferenceIdeal.Value.after m' c Cert.ProjReferenceIdeal.main_v130 (ix2 i j) = queryEntry m c i j := fun i j => by
    rw [Cert.ProjReferenceIdeal.Value.query_at]
    unfold queryEntry
    simp only [cols_same m m' c h, lowRank_same m m' c h h₃, Cert.ProjReferenceIdeal.Value.arg, h₄]
  funext y
  have hy : y = ix2 (y 0 : Fin 16384) (y 1 : Fin 1024) := by
    funext a
    match a with
    | ⟨0, _⟩ => rfl
    | ⟨1, _⟩ => rfl
  rw [hy]
  exact e (y 0) (y 1)

/-- The plain projection's cache rows are the kernel's. -/
theorem cache_same (h : Inputs m m' c)
    (h₅ : ∀ a, m' (c, Proc.tc.devRef Cert.ProjReferenceIdeal.main_arg5) a = m ((c : Thread nD τ).loc main_arg5) a) :
    Cert.ProjReferenceIdeal.Value.after m' c Cert.ProjReferenceIdeal.main_v131 = cacheRows m c := by
  have e : ∀ (i : Fin 16384) (j : Fin 288),
      Cert.ProjReferenceIdeal.Value.after m' c Cert.ProjReferenceIdeal.main_v131 (ix2 i j) = cacheEntry m c i j := fun i j => by
    rw [Cert.ProjReferenceIdeal.Value.cache_at]
    unfold cacheEntry
    simp only [cols_same m m' c h, latent_same m m' c h h₅]
  funext y
  have hy : y = ix2 (y 0 : Fin 16384) (y 1 : Fin 288) := by
    funext a
    match a with
    | ⟨0, _⟩ => rfl
    | ⟨1, _⟩ => rfl
  rw [hy]
  exact e (y 0) (y 1)

/-- The plain projection's keys are the kernel's. -/
theorem keys_same (h : Inputs m m' c)
    (h₅ : ∀ a, m' (c, Proc.tc.devRef Cert.ProjReferenceIdeal.main_arg5) a = m ((c : Thread nD τ).loc main_arg5) a)
    (h₆ : ∀ a, m' (c, Proc.tc.devRef Cert.ProjReferenceIdeal.main_arg6) a = m ((c : Thread nD τ).loc main_arg6) a) :
    Cert.ProjReferenceIdeal.Value.after m' c Cert.ProjReferenceIdeal.main_v133 = keysRows m c := by
  have e : ∀ (i : Fin 16384) (j : Fin 1024),
      Cert.ProjReferenceIdeal.Value.after m' c Cert.ProjReferenceIdeal.main_v133 (ix2 i j) = keysEntry m c i j := fun i j => by
    rw [Cert.ProjReferenceIdeal.Value.keys_at]
    unfold keysEntry
    simp only [cols_same m m' c h, latent_same m m' c h h₅, Cert.ProjReferenceIdeal.Value.arg, h₆]
  funext y
  have hy : y = ix2 (y 0 : Fin 16384) (y 1 : Fin 1024) := by
    funext a
    match a with
    | ⟨0, _⟩ => rfl
    | ⟨1, _⟩ => rfl
  rw [hy]
  exact e (y 0) (y 1)

/-- The plain projection's values are the kernel's. -/
theorem value_same (h : Inputs m m' c)
    (h₅ : ∀ a, m' (c, Proc.tc.devRef Cert.ProjReferenceIdeal.main_arg5) a = m ((c : Thread nD τ).loc main_arg5) a)
    (h₇ : ∀ a, m' (c, Proc.tc.devRef Cert.ProjReferenceIdeal.main_arg7) a = m ((c : Thread nD τ).loc main_arg7) a) :
    Cert.ProjReferenceIdeal.Value.after m' c Cert.ProjReferenceIdeal.main_v135 = valueRows m c := by
  have e : ∀ (i : Fin 16384) (j : Fin 512),
      Cert.ProjReferenceIdeal.Value.after m' c Cert.ProjReferenceIdeal.main_v135 (ix2 i j) = valueEntry m c i j := fun i j => by
    rw [Cert.ProjReferenceIdeal.Value.value_at]
    unfold valueEntry
    simp only [latent_same m m' c h h₅, Cert.ProjReferenceIdeal.Value.arg, h₇]
  funext y
  have hy : y = ix2 (y 0 : Fin 16384) (y 1 : Fin 512) := by
    funext a
    match a with
    | ⟨0, _⟩ => rfl
    | ⟨1, _⟩ => rfl
  rw [hy]
  exact e (y 0) (y 1)

end Cert.ProjIdeal.Value

end
-- ==== Proof.Sample.Blocks.lean ====
/- The blocks the projection kernel reads at a grid point. -/
module

public import proofs.«01_k».proof.Proof.Gen.SampleIdeal.Value
public import proofs.«01_k».proof.Proof.Proj.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0]
    ∧ win0_7.index t = ![0, 0] ∧ win0_8.index t = ![0, 0]
    ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

variable (c : Dev nD) (t : Fin cfg0.N)

/-! ## The blocks, as blocks of the host line's buffers -/

/-- The rows of the input at a grid point. -/
theorem blk0 (r : Fin 128) (d : Fin 1024) : iblk m c 0 t (ix2 r d) = m ((c : Thread nD τ).loc main_arg0)
    (ix3 ⟨t.val * 128 + r.val, by have := lt_of_lt_of_eq t.isLt (by decide : cfg0.N = 1); omega⟩ 0 d) := by
  have e : ∀ i : Fin 128, V m c main_v42 (ix2 i d) = m ((c : Thread nD τ).loc main_arg0) (ix3 i 0 d) :=
    fun i => by after_reads_at
  have := lt_of_lt_of_eq t.isLt (by decide : cfg0.N = 1)
  refine Eq.trans ?_ (e ⟨t.val * 128 + r.val, by omega⟩)
  unfold iblk
  blk_simp [idx t]
  blk_point [idx t]

/-- The mixer's gain. -/
theorem blk1 (d : Fin 1024) : iblk m c 1 t (ix2 0 d) = m ((c : Thread nD τ).loc main_arg1) (ix2 0 d) := by
  have e : V m c main_v39 (ix2 0 d) = m ((c : Thread nD τ).loc main_arg1) (ix2 0 d) := by after_reads_at
  refine Eq.trans ?_ e
  unfold iblk
  blk_simp [idx t]
  blk_point [idx t]

/-- The input weights, rearranged. -/
theorem blk2 (k : Fin 1024) (j : Fin 4736) : iblk m c 2 t (ix2 k j) = V m c main_v19 (ix2 k j) := by
  unfold iblk
  blk_simp [idx t]
  blk_point [idx t]

/-- The query's gain. -/
theorem blk3 (d : Fin 384) : iblk m c 3 t (ix2 0 d) = m ((c : Thread nD τ).loc main_arg3) (ix2 0 d) := by
  have e : V m c main_v40 (ix2 0 d) = m ((c : Thread nD τ).loc main_arg3) (ix2 0 d) := by after_reads_at
  refine Eq.trans ?_ e
  unfold iblk
  blk_simp [idx t]
  blk_point [idx t]

/-- The query weights, rearranged. -/
theorem blk4 (k : Fin 384) (j : Fin 2048) : iblk m c 4 t (ix2 k j) = V m c main_v32 (ix2 k j) := by
  unfold iblk
  blk_simp [idx t]
  blk_point [idx t]

/-- The latent's gain. -/
theorem blk5 (d : Fin 256) : iblk m c 5 t (ix2 0 d) = m ((c : Thread nD τ).loc main_arg5) (ix2 0 d) := by
  have e : V m c main_v41 (ix2 0 d) = m ((c : Thread nD τ).loc main_arg5) (ix2 0 d) := by after_reads_at
  refine Eq.trans ?_ e
  unfold iblk
  blk_simp [idx t]
  blk_point [idx t]

/-- The key and value weights, rearranged. -/
theorem blk6 (k : Fin 256) (j : Fin 1536) : iblk m c 6 t (ix2 k j) = V m c main_v38 (ix2 k j) := by
  unfold iblk
  blk_simp [idx t]
  blk_point [idx t]

/-- The query's cosine table. -/
theorem blk7 (r : Fin 128) (j : Fin 128) : iblk m c 7 t (ix2 r j)
    = V m c main_v67 (ix2 r j) := by
  unfold iblk
  blk_simp [idx t]
  blk_point [idx t]

/-- The query's sine table. -/
theorem blk8 (r : Fin 128) (j : Fin 128) : iblk m c 8 t (ix2 r j)
    = V m c main_v69 (ix2 r j) := by
  unfold iblk
  blk_simp [idx t]
  blk_point [idx t]

/-- The key's cosine table. -/
theorem blk9 (r : Fin 128) (j : Fin 128) : iblk m c 9 t (ix2 r j)
    = V m c main_v70 (ix2 r j) := by
  unfold iblk
  blk_simp [idx t]
  blk_point [idx t]

/-- The key's sine table. -/
theorem blk10 (r : Fin 128) (j : Fin 128) : iblk m c 10 t (ix2 r j)
    = V m c main_v71 (ix2 r j) := by
  unfold iblk
  blk_simp [idx t]
  blk_point [idx t]

end Cert.SampleIdeal.Value

end
-- ==== Proof.Sample.Weights.lean ====
/- The weights the projection kernel reads, entry by entry, from the layer's arguments. -/
module

public import proofs.«01_k».proof.Proof.Gen.SampleIdeal.Value
public import proofs.«01_k».proof.Proof.Sample.Blocks
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-! ## The input weights -/

/-- The gate columns. -/
theorem win_gate (k : Fin 1024) (j : Fin 2048) : iblk m c 2 t (ix2 k ⟨j.val, by omega⟩)
    = m ((c : Thread nD τ).loc main_arg2) (ix3 0 k ⟨2464 + j.val, by omega⟩) := by
  rw [blk2]
  after_reads_at
  after_reads_at

/-- The recurrent branch's columns. -/
theorem win_rec (k : Fin 1024) (j : Fin 1792) : iblk m c 2 t (ix2 k ⟨2048 + j.val, by omega⟩)
    = m ((c : Thread nD τ).loc main_arg2) (ix3 0 k ⟨672 + j.val, by omega⟩) := by
  rw [blk2]
  after_reads_at
  after_reads_at

/-- The query's low-rank columns. -/
theorem win_lowRank (k : Fin 1024) (j : Fin 384) : iblk m c 2 t (ix2 k ⟨3840 + j.val, by omega⟩)
    = m ((c : Thread nD τ).loc main_arg2) (ix3 0 k ⟨j.val, by omega⟩) := by
  rw [blk2]
  after_reads_at
  rw [dif_neg (by omega), dif_neg (by omega), dif_pos (by omega)]
  after_reads_at
  exact congrArg (fun i => m ((c : Thread nD τ).loc main_arg2) (ix3 0 k i)) (Fin.mk_eq_mk.mpr (by omega))

/-- The latent columns. -/
theorem win_latent (k : Fin 1024) (j : Fin 256) : iblk m c 2 t (ix2 k ⟨4224 + j.val, by omega⟩)
    = m ((c : Thread nD τ).loc main_arg2) (ix3 0 k ⟨384 + j.val, by omega⟩) := by
  rw [blk2]
  after_reads_at
  rw [dif_neg (by omega), dif_neg (by omega), dif_neg (by omega), dif_pos (by omega)]
  after_reads_at
  exact congrArg (fun i => m ((c : Thread nD τ).loc main_arg2) (ix3 0 k i)) (Fin.mk_eq_mk.mpr (by omega))

/-- The rotated key columns, laid twice. -/
theorem win_turn (k : Fin 1024) (j : Fin 128) (h : j.val % 64 < 32) : iblk m c 2 t (ix2 k ⟨4480 + j.val, by omega⟩)
    = m ((c : Thread nD τ).loc main_arg2) (ix3 0 k ⟨640 + j.val % 64, by omega⟩) := by
  rw [blk2]
  after_reads_at
  rw [dif_neg (by omega), dif_neg (by omega), dif_neg (by omega), dif_neg (by omega), dif_pos (by omega)]
  after_reads_at
  after_reads_at
  split_ifs <;> first
    | (exfalso; omega)
    | exact congrArg (fun i => m ((c : Thread nD τ).loc main_arg2) (ix3 0 k i)) (Fin.mk_eq_mk.mpr (by omega))

/-- Their second copy with the halves exchanged: the first half. -/
theorem win_turnLow (k : Fin 1024) (j : Fin 128) (h : j.val % 64 < 16) : iblk m c 2 t (ix2 k ⟨4608 + j.val, by omega⟩)
    = m ((c : Thread nD τ).loc main_arg2) (ix3 0 k ⟨656 + j.val % 64, by omega⟩) := by
  rw [blk2]
  after_reads_at
  rw [dif_neg (by omega), dif_neg (by omega), dif_neg (by omega), dif_neg (by omega), dif_neg (by omega)]
  after_reads_at
  after_reads_at
  split_ifs <;> first
    | (exfalso; omega)
    | exact congrArg (fun i => m ((c : Thread nD τ).loc main_arg2) (ix3 0 k i)) (Fin.mk_eq_mk.mpr (by omega))

/-- Their second copy with the halves exchanged: the second half. -/
theorem win_turnHigh (k : Fin 1024) (j : Fin 128) (h : 16 ≤ j.val % 64) (h' : j.val % 64 < 32) :
    iblk m c 2 t (ix2 k ⟨4608 + j.val, by omega⟩)
      = m ((c : Thread nD τ).loc main_arg2) (ix3 0 k ⟨640 + (j.val % 64 - 16), by omega⟩) := by
  rw [blk2]
  after_reads_at
  rw [dif_neg (by omega), dif_neg (by omega), dif_neg (by omega), dif_neg (by omega), dif_neg (by omega)]
  after_reads_at
  after_reads_at
  split_ifs <;> first
    | (exfalso; omega)
    | exact congrArg (fun i => m ((c : Thread nD τ).loc main_arg2) (ix3 0 k i)) (Fin.mk_eq_mk.mpr (by omega))

/-! ## The query, key and value weights -/

/-- The query weights as given. -/
abbrev wq (k : Fin 384) (e : Fin 768) : EReal := m ((c : Thread nD τ).loc main_arg4) (ix3 0 k e)

/-- The key weights as given. -/
abbrev wk (k : Fin 256) (e : Fin 512) : EReal := m ((c : Thread nD τ).loc main_arg6) (ix3 0 k e)

/-- The query weights of a head padded to 128 columns. -/
theorem wuq_plain (k : Fin 384) (j : Fin 1024) : iblk m c 4 t (ix2 k ⟨j.val, by omega⟩)
    = (if h : j.val % 128 < 96 then wq m c k ⟨j.val / 128 * 96 + j.val % 128, by omega⟩ else 0 : EReal) := by
  rw [blk4]
  after_reads_at
  after_reads_at
  after_reads_at

/-- The query weights of a head with the rotated halves exchanged: the first half. -/
theorem wuq_turnLow (k : Fin 384) (j : Fin 1024) (h : 64 ≤ j.val % 128) (h' : j.val % 128 < 80) :
    iblk m c 4 t (ix2 k ⟨1024 + j.val, by omega⟩) = wq m c k ⟨j.val / 128 * 96 + (j.val % 128 + 16), by omega⟩ := by
  rw [blk4]
  after_reads_at
  after_reads_at
  after_reads_at
  rw [dif_neg (by omega : ¬ j.val % 128 < 64), dif_pos (by omega : j.val % 128 - 64 < 32),
    dif_pos (by omega : j.val % 128 - 64 < 16)]
  exact congrArg (wq m c k) (Fin.ext (by dsimp only; omega))

/-- The query weights of a head with the rotated halves exchanged: the second half. -/
theorem wuq_turnHigh (k : Fin 384) (j : Fin 1024) (h : 80 ≤ j.val % 128) (h' : j.val % 128 < 96) :
    iblk m c 4 t (ix2 k ⟨1024 + j.val, by omega⟩) = wq m c k ⟨j.val / 128 * 96 + (j.val % 128 - 16), by omega⟩ := by
  rw [blk4]
  after_reads_at
  after_reads_at
  after_reads_at
  rw [dif_neg (by omega : ¬ j.val % 128 < 64), dif_pos (by omega : j.val % 128 - 64 < 32),
    dif_neg (by omega : ¬ j.val % 128 - 64 < 16)]
  exact congrArg (wq m c k) (Fin.ext (by dsimp only; omega))

/-- The query weights of a head with the rotated halves exchanged: the plain columns are zero. -/
theorem wuq_turnZero (k : Fin 384) (j : Fin 1024) (h : j.val % 128 < 64 ∨ 96 ≤ j.val % 128) :
    iblk m c 4 t (ix2 k ⟨1024 + j.val, by omega⟩) = (0 : EReal) := by
  rw [blk4]
  after_reads_at
  after_reads_at
  after_reads_at
  rcases h with h | h
  · rw [dif_pos h]
  · rw [dif_neg (by omega : ¬ j.val % 128 < 64), dif_neg (by omega : ¬ j.val % 128 - 64 < 32)]

/-- The key weights of a head padded to 128 columns. -/
theorem wukv_key (k : Fin 256) (j : Fin 1024) : iblk m c 6 t (ix2 k ⟨j.val, by omega⟩)
    = (if h : j.val % 128 < 64 then wk m c k ⟨j.val / 128 * 64 + j.val % 128, by omega⟩ else 0 : EReal) := by
  rw [blk6]
  after_reads_at
  after_reads_at
  after_reads_at

/-- The value weights. -/
theorem wukv_value (k : Fin 256) (j : Fin 512) : iblk m c 6 t (ix2 k ⟨1024 + j.val, by omega⟩)
    = m ((c : Thread nD τ).loc main_arg7) (ix3 0 k j) := by
  rw [blk6]
  after_reads_at
  after_reads_at

end Cert.SampleIdeal.Value

end
-- ==== Proof.Sample.Tables.lean ====
/- The rotary tables the projection kernel reads, entry by entry. -/
module

public import proofs.«01_k».proof.Proof.Gen.SampleIdeal.Value
public import proofs.«01_k».proof.Proof.Sample.Blocks
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-! ## The rotary tables -/

/-- The position of a row of the sample, the length of the past. -/
abbrev pos (_ : Fin cfg0.N) (_ : Fin 128) : BitVec 32 := 8192#32

/-- The query's cosine table: one on the plain entries, zero past the rotated ones. -/
theorem tab_cosq (r : Fin 128) (j : Fin 128) : iblk m c 7 t (ix2 r j)
    = (if j.val < 64 then 1 else if j.val < 80 then Ideal.cos (Rows.angle (pos t r) (j.val - 64))
      else if j.val < 96 then Ideal.cos (Rows.angle (pos t r) (j.val - 80)) else 0 : EReal) := by
  rw [blk7]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The query's sine table: zero off the rotated entries, negative on their first half. -/
theorem tab_sinq (r : Fin 128) (j : Fin 128) : iblk m c 8 t (ix2 r j)
    = (if j.val < 64 then 0 else if j.val < 80 then -Ideal.sin (Rows.angle (pos t r) (j.val - 64))
      else if j.val < 96 then Ideal.sin (Rows.angle (pos t r) (j.val - 80)) else 0 : EReal) := by
  rw [blk8]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The key's cosine table on the rotated entries. -/
theorem tab_cosk (r : Fin 128) (j : Fin 128) : iblk m c 9 t (ix2 r j)
    = (if j.val % 64 < 16 then Ideal.cos (Rows.angle (pos t r) (j.val % 64))
      else if j.val % 64 < 32 then Ideal.cos (Rows.angle (pos t r) (j.val % 64 - 16)) else 0 : EReal) := by
  rw [blk9]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

/-- The key's sine table on the rotated entries. -/
theorem tab_sink (r : Fin 128) (j : Fin 128) : iblk m c 10 t (ix2 r j)
    = (if j.val % 64 < 16 then -Ideal.sin (Rows.angle (pos t r) (j.val % 64))
      else if j.val % 64 < 32 then Ideal.sin (Rows.angle (pos t r) (j.val % 64 - 16)) else 0 : EReal) := by
  rw [blk10]
  after_reads_at
  after_reads_at
  split_ifs <;> first
    | rfl
    | (exfalso; omega)
    | exact congrArg (fun i => Ideal.cos (Rows.angle (pos t r) i)) (by omega)
    | exact congrArg (fun i => -Ideal.sin (Rows.angle (pos t r) i)) (by omega)
    | exact congrArg (fun i => Ideal.sin (Rows.angle (pos t r) i)) (by omega)
    | norm_num [Ideal.ofBits, Ideal.ieee]

end Cert.SampleIdeal.Value

end
-- ==== Proof.Sample.Kernel.lean ====
/- One row of the projection kernel, as scalar formulas over the blocks it reads. -/
module

public import proofs.«01_k».proof.Proof.Gen.SampleIdeal.Value
public import proofs.«01_k».proof.Proof.Proj.Rows
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-! ## The kernel's intermediate values, entry by entry -/

/-- The normalised row. -/
theorem h_at (A : FVec Ideal S128x1024 .f32) (G : FVec Ideal S1x1024 .f32) (r : Fin 128) (k : Fin 1024) :
    k0_pay3 (F := Ideal) A G (ix2 r k)
      = Rows.nrm (Ideal.ofBits .f32 0x44800000#32) (fun d => A (ix2 r d)) (fun d => G (ix2 0 d)) k := by
  pointwise [k0_pay3, Rows.nrm]

/-- The normalised low-rank query row. -/
theorem qn_at (H : FVec Ideal S128x1024 .bf16) (W : FVec Ideal S1024x384 .bf16) (G : FVec Ideal S1x384 .f32)
    (r : Fin 128) (k : Fin 384) :
    k0_pay15 (F := Ideal) H W G (ix2 r k)
      = Rows.nrm (Ideal.ofBits .f32 0x43C00000#32) (fun i => ∑ d : Fin 1024, H (ix2 r d) * W (ix2 d i))
          (fun d => G (ix2 0 d)) k := by
  pointwise [k0_pay15, Rows.nrm]

/-- The normalised latent row. -/
theorem ckv_at (H : FVec Ideal S128x1024 .bf16) (W : FVec Ideal S1024x256 .bf16) (G : FVec Ideal S1x256 .f32)
    (r : Fin 128) (k : Fin 256) :
    k0_pay31 (F := Ideal) H W G (ix2 r k)
      = Rows.nrm (Ideal.ofBits .f32 0x43800000#32) (fun i => ∑ d : Fin 1024, H (ix2 r d) * W (ix2 d i))
          (fun d => G (ix2 0 d)) k := by
  pointwise [k0_pay31, Rows.nrm]

/-- The rotated key columns. -/
theorem kr_at (Z : FVec Ideal S128x256 .f32) (A B : FVec Ideal S128x128 .f32) (x : S128x128.Idx) :
    k0_pay33 (F := Ideal) Z A B x
      = Z (ix2 (x 0) ⟨(x 1).val, by have : (x 1 : ℕ) < 128 := (x 1).isLt; omega⟩) * A x
        + Z (ix2 (x 0) ⟨128 + (x 1).val, by have : (x 1 : ℕ) < 128 := (x 1).isLt; omega⟩) * B x := by
  pointwise [k0_pay33]

/-- The rotated key columns kept on a head's rotated entries. -/
theorem krHead_at (Z : FVec Ideal S128x256 .f32) (A B : FVec Ideal S128x128 .f32) (x : S128x128.Idx) :
    k0_pay35 (F := Ideal) Z A B x
      = if 64 ≤ (x 1 : ℕ) ∧ (x 1 : ℕ) < 96 then k0_pay33 (F := Ideal) Z A B x else 0 := by
  have e : ∀ l < 128, IntOp.andi (IntOp.cmpi .sge (BitVec.ofNat 32 l) (64#32))
      (IntOp.cmpi .slt (BitVec.ofNat 32 l) (96#32)) = if 64 ≤ l ∧ l < 96 then 1#1 else 0#1 := by
    decide +kernel
  pointwise [k0_pay35]
  rw [e _ (x 1).isLt]
  split_ifs <;> rfl

/-! ## One row at a grid point -/

/-- The normalised row. -/
def row (r : Fin 128) : Fin 1024 → EReal :=
  Rows.nrm (Ideal.ofBits .f32 0x44800000#32) (fun d => iblk m c 0 t (ix2 r d)) (fun d => iblk m c 1 t (ix2 0 d))

/-- The row times the rearranged input weights. -/
def col (r : Fin 128) (j : Fin 4736) : EReal := ∑ k : Fin 1024, row m c t r k * iblk m c 2 t (ix2 k j)

/-- The low-rank query row. -/
def low (r : Fin 128) : Fin 384 → EReal :=
  Rows.nrm (Ideal.ofBits .f32 0x43C00000#32) (fun i => col m c t r ⟨3840 + i.val, by omega⟩)
    (fun d => iblk m c 3 t (ix2 0 d))

/-- The latent row. -/
def lat (r : Fin 128) : Fin 256 → EReal :=
  Rows.nrm (Ideal.ofBits .f32 0x43800000#32) (fun i => col m c t r ⟨4224 + i.val, by omega⟩)
    (fun d => iblk m c 5 t (ix2 0 d))

/-- The rotated key row, by the tables. -/
def turn (r : Fin 128) (l : Fin 128) : EReal :=
  col m c t r ⟨4480 + l.val, by omega⟩ * iblk m c 9 t (ix2 r l)
    + col m c t r ⟨4608 + l.val, by omega⟩ * iblk m c 10 t (ix2 r l)

end Cert.SampleIdeal.Value

end
-- ==== Proof.Sample.Gates.lean ====
/- The gates and the recurrent columns the projection kernel writes at a grid point. -/
module

public import proofs.«01_k».proof.Proof.Gen.SampleIdeal.Value
public import proofs.«01_k».proof.Proof.Sample.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-- The gates. -/
theorem out11 (r : Fin 128) (j : Fin 2048) : (dats m 0 c).after 11 t (ix2 r j)
    = Ideal.logistic (col m c t r ⟨j.val, by omega⟩) := by
  rw [after0_11]; simp only [outsAt0]; frame_out
  canon_tiles x h
  all_goals (change (r : ℕ) = _ at h0; change (j : ℕ) = _ at h1)
  all_goals (pointwise [k0_pay4, k0_pay5, k0_pay6, k0_pay7, h_at, col, row]; blk_point [] <;> omega)

/-- The recurrent branch's columns. -/
theorem out12 (r : Fin 128) (j : Fin 1792) : (dats m 0 c).after 12 t (ix2 r j)
    = col m c t r ⟨2048 + j.val, by omega⟩ := by
  rw [after0_12]; simp only [outsAt0]; frame_out
  canon_tiles x h
  all_goals (change (r : ℕ) = _ at h0; change (j : ℕ) = _ at h1)
  all_goals (pointwise [k0_pay8, k0_pay9, k0_pay10, k0_pay11, k0_pay12, k0_pay13, k0_pay14, h_at, col, row]; blk_point [] <;> omega)

end Cert.SampleIdeal.Value

end
-- ==== Proof.Sample.Query.lean ====
/- The queries the projection kernel writes at a grid point. -/
module

public import proofs.«01_k».proof.Proof.Gen.SampleIdeal.Value
public import proofs.«01_k».proof.Proof.Sample.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-- The queries. -/
theorem out13 (r : Fin 128) (j : Fin 1024) : (dats m 0 c).after 13 t (ix2 r j)
    = (∑ k : Fin 384, low m c t r k * iblk m c 4 t (ix2 k ⟨j.val, by omega⟩))
          * iblk m c 7 t (ix2 r ⟨j.val % 128, by omega⟩)
        + (∑ k : Fin 384, low m c t r k * iblk m c 4 t (ix2 k ⟨1024 + j.val, by omega⟩))
          * iblk m c 8 t (ix2 r ⟨j.val % 128, by omega⟩) := by
  rw [after0_13]; simp only [outsAt0]; frame_out
  canon_tiles x h
  all_goals (change (r : ℕ) = _ at h0; change (j : ℕ) = _ at h1)
  all_goals
    pointwise [k0_pay16, k0_pay17, k0_pay18, k0_pay19, k0_pay20, k0_pay21, k0_pay22, k0_pay23, k0_pay24,
      k0_pay25, k0_pay26, k0_pay27, k0_pay28, k0_pay29, k0_pay30, qn_at, h_at, low, col, row]
    blk_point [] <;> omega

end Cert.SampleIdeal.Value

end
-- ==== Proof.Sample.Keys.lean ====
/- The cache rows the projection kernel writes at a grid point. -/
module

public import proofs.«01_k».proof.Proof.Gen.SampleIdeal.Value
public import proofs.«01_k».proof.Proof.Sample.Kernel
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-- The cache rows. -/
theorem out14 (r : Fin 128) (j : Fin 288) : (dats m 0 c).after 14 t (ix2 r j)
    = if h : j.val < 256 then lat m c t r ⟨j.val, h⟩ else turn m c t r ⟨j.val - 256, by omega⟩ := by
  rw [after0_14]; simp only [outsAt0]; frame_out
  canon_tiles x h using (by
    by_cases g : j.val < 256
    · refine ⟨_, List.mem_cons_of_mem _ List.mem_cons_self, ?_⟩
      rw [Rect.mem_set_unit]
      intro a
      match a with
      | ⟨0, _⟩ => show 0 ≤ r.val ∧ r.val < 0 + 128; omega
      | ⟨1, _⟩ => show 0 ≤ j.val ∧ j.val < 0 + 256; omega
    · refine ⟨_, List.mem_cons_self, ?_⟩
      rw [Rect.mem_set_unit]
      intro a
      match a with
      | ⟨0, _⟩ => show 0 ≤ r.val ∧ r.val < 0 + 128; omega
      | ⟨1, _⟩ => show 256 ≤ j.val ∧ j.val < 256 + 32; omega)
  all_goals (change (r : ℕ) = _ at h0; change (j : ℕ) = _ at h1)
  case piece0 =>
    rw [dif_neg (by omega)]
    pointwise [k0_pay34, k0_pay32, kr_at, h_at, turn, col, row]
    blk_point [] <;> omega
  case piece1 =>
    have hj : j.val < 256 := by omega
    have hx : x = ix2 r ⟨j.val, hj⟩ := by
      funext a
      apply Fin.ext
      match a with
      | ⟨0, _⟩ => exact h0.symm
      | ⟨1, _⟩ => exact h1.symm
    rw [dif_pos hj, hx]
    pointwise [ckv_at, h_at, lat, col, row]

end Cert.SampleIdeal.Value

end
-- ==== Proof.Sample.Point.lean ====
/- What the projection kernel computes at a row of a grid point, by the row's scalar formulas. -/
module

public import proofs.«01_k».proof.Proof.Gen.SampleIdeal.Value
public import proofs.«01_k».proof.Proof.Sample.Weights
public import proofs.«01_k».proof.Proof.Sample.Tables
public import proofs.«01_k».proof.Proof.Sample.Gates
public import proofs.«01_k».proof.Proof.Sample.Query
public import proofs.«01_k».proof.Proof.Sample.Keys

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD) (t : Fin cfg0.N)

/-! ## A row of the sample -/

/-- The combined columns of a row. -/
def cols (i : Fin 128) : Fin 4512 → EReal :=
  Rows.columns (fun d => m ((c : Thread nD τ).loc main_arg0) (ix3 i 0 d))
    (fun d => m ((c : Thread nD τ).loc main_arg1) (ix2 0 d)) (fun k j => m ((c : Thread nD τ).loc main_arg2) (ix3 0 k j))

/-- The normalised low-rank query row. -/
def lowRank (i : Fin 128) : Fin 384 → EReal :=
  Rows.lowRank (cols m c i) (fun d => m ((c : Thread nD τ).loc main_arg3) (ix2 0 d))

/-- The normalised latent row. -/
def latent (i : Fin 128) : Fin 256 → EReal :=
  Rows.latent (cols m c i) (fun d => m ((c : Thread nD τ).loc main_arg5) (ix2 0 d))

/-- A row's position, the length of the past. -/
abbrev place (i : Fin 128) : BitVec 32 := IntOp.addi (8192#32) (BitVec.ofNat 32 0)

/-- The row of the sample at a row of a grid point's block. -/
abbrev rowOf (r : Fin 128) : Fin 128 :=
  ⟨t.val * 128 + r.val, by have := lt_of_lt_of_eq t.isLt (by decide : cfg0.N = 1); omega⟩

theorem place_eq (r : Fin 128) : pos t r = place (rowOf t r) :=
  (by decide : (8192#32 : BitVec 32) = IntOp.addi (8192#32) (BitVec.ofNat 32 0))

/-! ## The block's columns are the row's -/

/-- The block's normalised row is the row's. -/
theorem row_eq (r : Fin 128) : row m c t r = Rows.nrm (Ideal.ofBits .f32 0x44800000#32)
    (fun d => m ((c : Thread nD τ).loc main_arg0)
      (ix3 (rowOf t r) 0 d))
    (fun d => m ((c : Thread nD τ).loc main_arg1) (ix2 0 d)) := by
  unfold row
  simp only [blk0, blk1]

/-- The gate columns. -/
theorem col_gate (r : Fin 128) (j : Fin 2048) :
    col m c t r ⟨j.val, by omega⟩ = cols m c (rowOf t r) ⟨2464 + j.val, by omega⟩ := by
  unfold col cols Rows.columns Rows.times
  simp only [win_gate, row_eq]

/-- The recurrent branch's columns. -/
theorem col_rec (r : Fin 128) (j : Fin 1792) :
    col m c t r ⟨2048 + j.val, by omega⟩ = cols m c (rowOf t r) ⟨672 + j.val, by omega⟩ := by
  unfold col cols Rows.columns Rows.times
  simp only [win_rec, row_eq]

/-- The query's low-rank columns. -/
theorem col_lowRank (r : Fin 128) (j : Fin 384) :
    col m c t r ⟨3840 + j.val, by omega⟩ = cols m c (rowOf t r) ⟨j.val, by omega⟩ := by
  unfold col cols Rows.columns Rows.times
  simp only [win_lowRank, row_eq]

/-- The latent columns. -/
theorem col_latent (r : Fin 128) (j : Fin 256) :
    col m c t r ⟨4224 + j.val, by omega⟩ = cols m c (rowOf t r) ⟨384 + j.val, by omega⟩ := by
  unfold col cols Rows.columns Rows.times
  simp only [win_latent, row_eq]

/-- The rotary columns in place. -/
theorem col_turn (r : Fin 128) (l : Fin 128) (h : l.val % 64 < 32) :
    col m c t r ⟨4480 + l.val, by omega⟩ = cols m c (rowOf t r) ⟨640 + l.val % 64, by omega⟩ := by
  unfold col cols Rows.columns Rows.times
  simp only [win_turn m c t _ l h, row_eq]

/-- The rotary columns with their halves exchanged: the first half. -/
theorem col_turnLow (r : Fin 128) (l : Fin 128) (h : l.val % 64 < 16) :
    col m c t r ⟨4608 + l.val, by omega⟩ = cols m c (rowOf t r) ⟨656 + l.val % 64, by omega⟩ := by
  unfold col cols Rows.columns Rows.times
  simp only [win_turnLow m c t _ l h, row_eq]

/-- The rotary columns with their halves exchanged: the second half. -/
theorem col_turnHigh (r : Fin 128) (l : Fin 128) (h : 16 ≤ l.val % 64) (h' : l.val % 64 < 32) :
    col m c t r ⟨4608 + l.val, by omega⟩ = cols m c (rowOf t r) ⟨640 + (l.val % 64 - 16), by omega⟩ := by
  unfold col cols Rows.columns Rows.times
  simp only [win_turnHigh m c t _ l h h', row_eq]

theorem low_eq (r : Fin 128) : low m c t r = lowRank m c (rowOf t r) := by
  unfold low lowRank Rows.lowRank
  simp only [col_lowRank, blk3]

theorem lat_eq (r : Fin 128) : lat m c t r = latent m c (rowOf t r) := by
  unfold lat latent Rows.latent
  simp only [col_latent, blk5]

/-- The tables turn the key columns by the row's position. -/
theorem turn_eq (r : Fin 128) (l : Fin 128) (h : l.val % 64 < 32) :
    turn m c t r l = Rows.keyTurn (cols m c (rowOf t r)) (place (rowOf t r)) ⟨l.val % 64, h⟩ := by
  unfold turn Rows.keyTurn
  rw [col_turn m c t r l h, tab_cosk, tab_sink, place_eq]
  by_cases g : l.val % 64 < 16
  · rw [col_turnLow m c t r l g]
    simp only [g, if_true, ↓reduceDIte]
    rw [mul_neg, sub_eq_add_neg]
  · rw [col_turnHigh m c t r l (by omega) h]
    simp only [g, h, if_true, if_false, ↓reduceDIte]
    rw [add_comm]
    simp only [show 656 + (l.val % 64 - 16) = 640 + l.val % 64 by omega]

/-! ## What a grid point stores -/

/-- The gates. -/
theorem gate_point (r : Fin 128) (j : Fin 2048) : (dats m 0 c).after 11 t (ix2 r j)
    = Ideal.logistic (cols m c (rowOf t r) ⟨2464 + j.val, by omega⟩) := by
  rw [out11, col_gate]

/-- The recurrent branch's columns. -/
theorem rec_point (r : Fin 128) (j : Fin 1792) : (dats m 0 c).after 12 t (ix2 r j)
    = cols m c (rowOf t r) ⟨672 + j.val, by omega⟩ := by
  rw [out12, col_rec]

/-- The cache rows. -/
theorem cache_point (r : Fin 128) (j : Fin 288) : (dats m 0 c).after 14 t (ix2 r j)
    = Rows.cacheRow (latent m c (rowOf t r)) (Rows.keyTurn (cols m c (rowOf t r)) (place (rowOf t r))) j := by
  rw [out14, lat_eq]
  unfold Rows.cacheRow
  by_cases h : j.val < 256
  · simp only [h, ↓reduceDIte]
  · simp only [h, ↓reduceDIte]
    rw [turn_eq m c t r ⟨j.val - 256, by omega⟩ (by show (j.val - 256) % 64 < 32; omega)]
    simp only [show (j.val - 256) % 64 = j.val - 256 by omega]

/-- The queries. -/
theorem query_point (r : Fin 128) (j : Fin 1024) : (dats m 0 c).after 13 t (ix2 r j)
    = Rows.query (Rows.times (lowRank m c (rowOf t r)) (wq m c)) (place (rowOf t r)) j := by
  rw [out13, low_eq, tab_cosq, tab_sinq, place_eq]
  simp only [wuq_plain]
  unfold Rows.query Rows.times
  by_cases h : j.val % 128 < 64
  · have h' : j.val % 128 < 96 := by omega
    simp only [h, h', ↓reduceDIte, if_true, mul_one, mul_zero, add_zero]
  by_cases g : j.val % 128 < 80
  · have h' : j.val % 128 < 96 := by omega
    simp only [wuq_turnLow m c t _ j (by omega) g]
    simp only [h, g, h', ↓reduceDIte, if_true, if_false]
    rw [mul_neg, sub_eq_add_neg]
  by_cases f : j.val % 128 < 96
  · simp only [wuq_turnHigh m c t _ j (by omega) f]
    simp only [h, g, f, ↓reduceDIte, if_true, if_false]
    rw [add_comm]
  · simp only [h, g, f, ↓reduceDIte, if_false, mul_zero, add_zero]

end Cert.SampleIdeal.Value

end
-- ==== Proof.Sample.Arrays.lean ====
/- The arrays after the projection kernel's run, whole. -/
module

public import proofs.«01_k».proof.Proof.Gen.SampleIdeal.Value
public import proofs.«01_k».proof.Proof.Gen.SampleIdeal.Frame
public import proofs.«01_k».proof.Proof.Sample.Point
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD)

/-- The gates of one row. -/
def gateEntry (i : Fin 128) (j : Fin 2048) : EReal :=
  Ideal.logistic (cols m c i ⟨2464 + j.val, by omega⟩)

/-- The gates of all rows. -/
def gateRows : FVec Ideal S128x2048 .f32 := fun y =>
  gateEntry m c (y 0) (y 1)

/-- After the run the array holds the gates of all rows. -/
theorem gate_final : (dats m 0 c).arrAt 11 (cfgs 0).N = gateRows m c := by
  refine (dats m 0 c).arrAt_eq_of_covers 11 _ (by decide +kernel) fun t _ y => ?_
  have hy : y = ix2 (y 0 : Fin 128) (y 1 : Fin 2048) := by
    funext a
    match a with
    | ⟨0, _⟩ => rfl
    | ⟨1, _⟩ => rfl
  rw [hy]
  refine (gate_point m c t (y 0) (y 1)).trans ?_
  have e0 : (((cfg0.win 11).blk t).view.emb (ix2 (y 0 : Fin 128) (y 1 : Fin 2048)) 0).val = t.val * 128 + (y 0).val := by
    blk_simp [idx t]
  have e1 : (((cfg0.win 11).blk t).view.emb (ix2 (y 0 : Fin 128) (y 1 : Fin 2048)) 1).val = (y 1).val := by
    blk_simp [idx t]
  exact congrArg₂ (gateEntry m c) (Fin.ext e0.symm) (Fin.ext e1.symm)

/-- The recurrent columns of one row. -/
def recEntry (i : Fin 128) (j : Fin 1792) : EReal :=
  cols m c i ⟨672 + j.val, by omega⟩

/-- The recurrent columns of all rows. -/
def recRows : FVec Ideal S128x1792 .f32 := fun y =>
  recEntry m c (y 0) (y 1)

/-- After the run the array holds the recurrent columns of all rows. -/
theorem rec_final : (dats m 0 c).arrAt 12 (cfgs 0).N = recRows m c := by
  refine (dats m 0 c).arrAt_eq_of_covers 12 _ (by decide +kernel) fun t _ y => ?_
  have hy : y = ix2 (y 0 : Fin 128) (y 1 : Fin 1792) := by
    funext a
    match a with
    | ⟨0, _⟩ => rfl
    | ⟨1, _⟩ => rfl
  rw [hy]
  refine (rec_point m c t (y 0) (y 1)).trans ?_
  have e0 : (((cfg0.win 12).blk t).view.emb (ix2 (y 0 : Fin 128) (y 1 : Fin 1792)) 0).val = t.val * 128 + (y 0).val := by
    blk_simp [idx t]
  have e1 : (((cfg0.win 12).blk t).view.emb (ix2 (y 0 : Fin 128) (y 1 : Fin 1792)) 1).val = (y 1).val := by
    blk_simp [idx t]
  exact congrArg₂ (recEntry m c) (Fin.ext e0.symm) (Fin.ext e1.symm)

/-- The queries of one row. -/
def queryEntry (i : Fin 128) (j : Fin 1024) : EReal :=
  Rows.query (Rows.times (lowRank m c i) (wq m c)) (place i) j

/-- The queries of all rows. -/
def queryRows : FVec Ideal S128x1024 .f32 := fun y =>
  queryEntry m c (y 0) (y 1)

/-- After the run the array holds the queries of all rows. -/
theorem query_final : (dats m 0 c).arrAt 13 (cfgs 0).N = queryRows m c := by
  refine (dats m 0 c).arrAt_eq_of_covers 13 _ (by decide +kernel) fun t _ y => ?_
  have hy : y = ix2 (y 0 : Fin 128) (y 1 : Fin 1024) := by
    funext a
    match a with
    | ⟨0, _⟩ => rfl
    | ⟨1, _⟩ => rfl
  rw [hy]
  refine (query_point m c t (y 0) (y 1)).trans ?_
  have e0 : (((cfg0.win 13).blk t).view.emb (ix2 (y 0 : Fin 128) (y 1 : Fin 1024)) 0).val = t.val * 128 + (y 0).val := by
    blk_simp [idx t]
  have e1 : (((cfg0.win 13).blk t).view.emb (ix2 (y 0 : Fin 128) (y 1 : Fin 1024)) 1).val = (y 1).val := by
    blk_simp [idx t]
  exact congrArg₂ (queryEntry m c) (Fin.ext e0.symm) (Fin.ext e1.symm)

/-- The cache rows of one row. -/
def cacheEntry (i : Fin 128) (j : Fin 288) : EReal :=
  Rows.cacheRow (latent m c i) (Rows.keyTurn (cols m c i) (place i)) j

/-- The cache rows of all rows. -/
def cacheRows : FVec Ideal S128x288 .f32 := fun y =>
  cacheEntry m c (y 0) (y 1)

/-- After the run the array holds the cache rows of all rows. -/
theorem cache_final : (dats m 0 c).arrAt 14 (cfgs 0).N = cacheRows m c := by
  refine (dats m 0 c).arrAt_eq_of_covers 14 _ (by decide +kernel) fun t _ y => ?_
  have hy : y = ix2 (y 0 : Fin 128) (y 1 : Fin 288) := by
    funext a
    match a with
    | ⟨0, _⟩ => rfl
    | ⟨1, _⟩ => rfl
  rw [hy]
  refine (cache_point m c t (y 0) (y 1)).trans ?_
  have e0 : (((cfg0.win 14).blk t).view.emb (ix2 (y 0 : Fin 128) (y 1 : Fin 288)) 0).val = t.val * 128 + (y 0).val := by
    blk_simp [idx t]
  have e1 : (((cfg0.win 14).blk t).view.emb (ix2 (y 0 : Fin 128) (y 1 : Fin 288)) 1).val = (y 1).val := by
    blk_simp [idx t]
  exact congrArg₂ (cacheEntry m c) (Fin.ext e0.symm) (Fin.ext e1.symm)

end Cert.SampleIdeal.Value

end
-- ==== Proof.Sample.Run.lean ====
/- The projection kernel's run: its result arrays, its arguments. -/
module

public import proofs.«01_k».proof.Proof.Gen.SampleIdeal.Value
public import proofs.«01_k».proof.Proof.Gen.SampleIdeal.Frame
public import proofs.«01_k».proof.Proof.Sample.Arrays
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleIdeal.Value

open Cert.SampleIdeal Cert.SampleIdeal.Gen

variable (m : (ℓ : Loc nD τ sig) → Buf (Elt Ideal) ℓ)
variable (c : Dev nD)

/-- The final state holds the gates. -/
theorem gate_mem (r : PUnit × MemSt nD τ sig (Elt Ideal)) (h : Pipeline.FramePost cfgs (dats m) 0 (V m) r) :
    r.2.mem ((c.tc : Thread nD τ).loc main_v72_0) = gateRows m c :=
  have e : r.2.mem ((c.tc : Thread nD τ).loc main_v72_0) = (dats m 0 c).arrAt 11 (cfgs 0).N := (h c).1 11
  e.trans (gate_final m c)

/-- The final state holds the recurrent columns. -/
theorem rec_mem (r : PUnit × MemSt nD τ sig (Elt Ideal)) (h : Pipeline.FramePost cfgs (dats m) 0 (V m) r) :
    r.2.mem ((c.tc : Thread nD τ).loc main_v72_1) = recRows m c :=
  have e : r.2.mem ((c.tc : Thread nD τ).loc main_v72_1) = (dats m 0 c).arrAt 12 (cfgs 0).N := (h c).1 12
  e.trans (rec_final m c)

/-- The final state holds the queries. -/
theorem query_mem (r : PUnit × MemSt nD τ sig (Elt Ideal)) (h : Pipeline.FramePost cfgs (dats m) 0 (V m) r) :
    r.2.mem ((c.tc : Thread nD τ).loc main_v72_2) = queryRows m c :=
  have e : r.2.mem ((c.tc : Thread nD τ).loc main_v72_2) = (dats m 0 c).arrAt 13 (cfgs 0).N := (h c).1 13
  e.trans (query_final m c)

/-- The final state holds the cache rows. -/
theorem cache_mem (r : PUnit × MemSt nD τ sig (Elt Ideal)) (h : Pipeline.FramePost cfgs (dats m) 0 (V m) r) :
    r.2.mem ((c.tc : Thread nD τ).loc main_v72_3) = cacheRows m c :=
  have e : r.2.mem ((c.tc : Thread nD τ).loc main_v72_3) = (dats m 0 c).arrAt 14 (cfgs 0).N := (h c).1 14
  e.trans (cache_final m c)

/-- The kernel runs: each result array holds its rows, the arguments stand. -/
theorem run (ρ : Dev nD → PrngReg) :
    θ_run defs (onTc (τ := τ) (main (F := Ideal))) ⟨m, fun _ => 0, ρ⟩ fun r => ∀ c : Dev nD,
      r.2.mem ((c.tc : Thread nD τ).loc main_v72_0) = gateRows m c
      ∧ r.2.mem ((c.tc : Thread nD τ).loc main_v72_2) = queryRows m c
      ∧ r.2.mem ((c.tc : Thread nD τ).loc main_v72_3) = cacheRows m c
      ∧ r.2.mem ((c.tc : Thread nD τ).loc main_v72_1) = recRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have h₀ : θ_run defs (onTc (τ := τ) (main (F := Ideal))) ⟨m, fun _ => 0, ρ⟩ (Pipeline.FramePost cfgs (dats m) 0 (V m)) :=
    run_main m ρ
  refine θ_run_mono (θ_run_and h₀ (unchanged m ρ)) fun r h c => ?_
  exact ⟨gate_mem m c r h.1, query_mem m c r h.1, cache_mem m c r h.1, rec_mem m c r h.1, h.2 c⟩

end Cert.SampleIdeal.Value

end
-- ==== Proof.Sample.Reference.lean ====
/- The plain projection's results, entry by entry. -/
module

public import proofs.«01_k».proof.Proof.Gen.SampleReferenceIdeal.Run
public import proofs.«01_k».proof.Proof.Proj.Rows
public import Idealize.ShloMosaic.Lib.IdealHost
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.SampleReferenceIdeal.Value

variable (m : (ℓ : Loc nD τ sig) → Buf (Elt Ideal) ℓ)
variable (c : Dev nD)

/-- A buffer after the operations. -/
abbrev after (b : Ref sig .tc) := StableHlo.after (ops (F := Ideal)) (fun b => m (c, b)) (Proc.tc.devRef b)

/-- An argument's contents. -/
abbrev arg (b : Ref sig .tc) := m (c, Proc.tc.devRef b)

/-- The combined columns of a row of the sample. -/
def cols (i : Fin 128) : Fin 4512 → EReal :=
  Rows.columns (fun d => arg m c main_arg0 (ix3 i 0 d))
    (fun d => arg m c main_arg1 (ix2 0 d)) (fun k j => arg m c main_arg2 (ix3 0 k j))

/-- The normalised low-rank query row. -/
def low (i : Fin 128) : Fin 384 → EReal := Rows.lowRank (cols m c i) (fun d => arg m c main_arg3 (ix2 0 d))

/-- The normalised latent row. -/
def lat (i : Fin 128) : Fin 256 → EReal := Rows.latent (cols m c i) (fun d => arg m c main_arg5 (ix2 0 d))

/-- A row's position, the length of the past. -/
abbrev place (i : Fin 128) : BitVec 32 := IntOp.addi (8192#32) (BitVec.ofNat 32 0)

/-! ## The written-out sums, by name -/

/-- A row's entry. -/
abbrev in0 (i : Fin 128) (d : Fin 1024) : EReal :=
  m (c, Proc.tc.devRef main_arg0) (ix3 i 0 d)

/-- The mixer's gain. -/
abbrev in1 (d : Fin 1024) : EReal := m (c, Proc.tc.devRef main_arg1) (ix2 0 d)

/-- The input weights. -/
abbrev in2 (k : Fin 1024) (j : Fin 4512) : EReal := m (c, Proc.tc.devRef main_arg2) (ix3 0 k j)

/-- The query's gain. -/
abbrev in3 (d : Fin 384) : EReal := m (c, Proc.tc.devRef main_arg3) (ix2 0 d)

/-- The latent's gain. -/
abbrev in5 (d : Fin 256) : EReal := m (c, Proc.tc.devRef main_arg5) (ix2 0 d)

theorem cols_eq (i : Fin 128) (j : Fin 4512) : (∑ x : Fin 1024,
      in0 m c i x * Ideal.rsqrt (Ideal.div (∑ y : Fin 1024, in0 m c i y * in0 m c i y)
            (Ideal.ofBits .f32 0x44800000#32) + Ideal.ofBits .f32 0x358637BD#32)
        * in1 m c x * in2 m c x j) = cols m c i j := rfl

theorem low_eq (i : Fin 128) (k : Fin 384) : cols m c i ⟨k.val, by omega⟩
      * Ideal.rsqrt (Ideal.div (∑ y : Fin 384, cols m c i ⟨y.val, by omega⟩ * cols m c i ⟨y.val, by omega⟩)
          (Ideal.ofBits .f32 0x43C00000#32) + Ideal.ofBits .f32 0x358637BD#32)
      * in3 m c k = low m c i k := rfl

theorem lat_eq (i : Fin 128) (k : Fin 256) : cols m c i ⟨384 + k.val, by omega⟩
      * Ideal.rsqrt (Ideal.div (∑ y : Fin 256, cols m c i ⟨384 + y.val, by omega⟩ * cols m c i ⟨384 + y.val, by omega⟩)
          (Ideal.ofBits .f32 0x43800000#32) + Ideal.ofBits .f32 0x358637BD#32)
      * in5 m c k = lat m c i k := rfl

theorem angle_eq (p : BitVec 32) (i : ℕ) : (FloatOps.sitofp (F := Ideal) .f32 p : EReal)
      * Ideal.pow (Ideal.ofBits .f32 0x461C4000#32)
        (Ideal.div (-(Ideal.ofBits .f32 0x40000000#32 * (FloatOps.sitofp (F := Ideal) .f32 (BitVec.ofNat 32 i) : EReal)))
          (Ideal.ofBits .f32 0x42000000#32)) = Rows.angle p i := rfl

/-! ## The results -/

/-- The recurrent branch's columns. -/
theorem rec_at (i : Fin 128) (j : Fin 1792) :
    after m c main_v130 (ix2 i j) = cols m c i ⟨672 + j.val, by omega⟩ := by
  after_reads_at
  simp only [cols_eq]

/-- The gates. -/
theorem gate_at (i : Fin 128) (j : Fin 2048) :
    after m c main_v127 (ix2 i j) = Ideal.logistic (cols m c i ⟨2464 + j.val, by omega⟩) := by
  after_reads_at
  simp only [cols_eq]
  rfl

/-- The cache rows. -/
theorem cache_at (i : Fin 128) (j : Fin 288) :
    after m c main_v129 (ix2 i j) = Rows.cacheRow (lat m c i) (Rows.keyTurn (cols m c i) (place i)) j := by
  after_reads_at
  pointwise [fn_main_v111, fn_main_v110]
  simp only [cols_eq, lat_eq, angle_eq]
  unfold Rows.cacheRow Rows.keyTurn
  by_cases h : j.val < 256
  · simp only [h, ↓reduceDIte]
    exact lat_eq m c i ⟨j.val, h⟩
  · simp only [h, ↓reduceDIte]
    by_cases g : j.val - 256 < 16
    · simp only [g, ↓reduceDIte, place]
      have e : (640 + (16 + (j.val - 256))) = 656 + (j.val - 256) := by omega
      simp only [e]
    · simp only [g, ↓reduceDIte, place]
      have e : (640 + (16 + (j.val - 256 - 16))) = 656 + (j.val - 256 - 16) := by omega
      simp only [e]

/-- The queries. -/
theorem query_at (i : Fin 128) (j : Fin 1024) :
    after m c main_v128 (ix2 i j)
      = Rows.query (Rows.times (low m c i) (fun k e => arg m c main_arg4 (ix3 0 k e))) (place i) j := by
  after_reads_at
  pointwise [fn_main_v117]
  after_reads_at
  pointwise [fn_main_v80]
  simp only [cols_eq, low_eq, angle_eq]
  unfold Rows.query Rows.times
  by_cases h : j.val % 128 < 64
  · simp only [h, ↓reduceDIte, arg]
  by_cases g : j.val % 128 < 80
  · have e1 : j.val % 128 - 64 < 32 := by omega
    have e2 : j.val % 128 - 64 < 16 := by omega
    have e3 : 64 + (j.val % 128 - 64) = j.val % 128 := by omega
    have e4 : 64 + (16 + (j.val % 128 - 64)) = j.val % 128 + 16 := by omega
    simp only [h, g, e1, e2, e3, e4, ↓reduceDIte, arg, place]
  by_cases f : j.val % 128 < 96
  · have e1 : j.val % 128 - 64 < 32 := by omega
    have e2 : ¬ j.val % 128 - 64 < 16 := by omega
    have e3 : 64 + (j.val % 128 - 64 - 16) = j.val % 128 - 16 := by omega
    have e4 : 64 + (16 + (j.val % 128 - 64 - 16)) = j.val % 128 := by omega
    have e5 : j.val % 128 - 64 - 16 = j.val % 128 - 80 := by omega
    simp only [h, g, f, e1, e2, e3, e4, ↓reduceDIte, arg, place]
    simp only [e5]
  · have e1 : ¬ j.val % 128 - 64 < 32 := by omega
    simp only [h, g, f, e1, ↓reduceDIte]

end Cert.SampleReferenceIdeal.Value

end
-- ==== Proof.Sample.Value.lean ====
/- The plain projection's results are the arrays the kernel leaves. -/
module

public import proofs.«01_k».proof.Proof.Gen.SampleIdeal.Value
public import proofs.«01_k».proof.Proof.Gen.SampleReferenceIdeal.Run
public import proofs.«01_k».proof.Proof.Sample.Run
public import proofs.«01_k».proof.Proof.Sample.Reference

@[expose] public section

set_option maxRecDepth 16384

noncomputable section

open Idealize.ShloMosaic Idealize.ShloMosaic.TcCoe Idealize.SL.Sem

namespace Cert.SampleReferenceIdeal.Value

open Cert.SampleReferenceIdeal Cert.SampleReferenceIdeal.Gen

/-- The plain projection runs: each result is what its operations leave, the arguments stand. -/
theorem run_after (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127) = after m c main_v127
      ∧ r.2.mem ((c.tc : Thread nD τ).loc main_v128) = after m c main_v128
      ∧ r.2.mem ((c.tc : Thread nD τ).loc main_v129) = after m c main_v129
      ∧ r.2.mem ((c.tc : Thread nD τ).loc main_v130) = after m c main_v130
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v127, h c main_v128, h c main_v129, h c main_v130,
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (StableHlo.run_seq scopedRefs_eq scopedSems_eq defs main (fun _ => ops) main_eq (fun _ => ops_sub) m ρ)

end Cert.SampleReferenceIdeal.Value

namespace Cert.SampleIdeal.Value

open Cert.SampleIdeal Cert.SampleIdeal.Gen

variable (m : (ℓ : Loc nD τ sig) → Buf (Elt Ideal) ℓ)
variable (m' : (ℓ : Loc Cert.SampleReferenceIdeal.nD Cert.SampleReferenceIdeal.τ Cert.SampleReferenceIdeal.sig) → Buf (Elt Ideal) ℓ)
variable (c : Dev nD)

/-- The memories agree on the rows, the mixer's gain and the input weights. -/
def Inputs : Prop :=
  (∀ a, m' (c, Proc.tc.devRef Cert.SampleReferenceIdeal.main_arg0) a = m ((c : Thread nD τ).loc main_arg0) a)
    ∧ (∀ a, m' (c, Proc.tc.devRef Cert.SampleReferenceIdeal.main_arg1) a = m ((c : Thread nD τ).loc main_arg1) a)
    ∧ ∀ a, m' (c, Proc.tc.devRef Cert.SampleReferenceIdeal.main_arg2) a = m ((c : Thread nD τ).loc main_arg2) a

/-- Then they give the same combined columns. -/
theorem cols_same (h : Inputs m m' c) (i : Fin 128) :
    Cert.SampleReferenceIdeal.Value.cols m' c i = cols m c i := by
  unfold Cert.SampleReferenceIdeal.Value.cols cols
  simp only [Cert.SampleReferenceIdeal.Value.arg, h.1, h.2.1, h.2.2]

/-- With the query's gain, the same low-rank query row. -/
theorem lowRank_same (h : Inputs m m' c)
    (h₃ : ∀ a, m' (c, Proc.tc.devRef Cert.SampleReferenceIdeal.main_arg3) a = m ((c : Thread nD τ).loc main_arg3) a) (i : Fin 128) :
    Cert.SampleReferenceIdeal.Value.low m' c i = lowRank m c i := by
  unfold Cert.SampleReferenceIdeal.Value.low lowRank
  simp only [cols_same m m' c h, Cert.SampleReferenceIdeal.Value.arg, h₃]

/-- With the latent's gain, the same latent row. -/
theorem latent_same (h : Inputs m m' c)
    (h₅ : ∀ a, m' (c, Proc.tc.devRef Cert.SampleReferenceIdeal.main_arg5) a = m ((c : Thread nD τ).loc main_arg5) a) (i : Fin 128) :
    Cert.SampleReferenceIdeal.Value.lat m' c i = latent m c i := by
  unfold Cert.SampleReferenceIdeal.Value.lat latent
  simp only [cols_same m m' c h, Cert.SampleReferenceIdeal.Value.arg, h₅]

/-- The plain projection's gates are the kernel's. -/
theorem gate_same (h : Inputs m m' c) :
    Cert.SampleReferenceIdeal.Value.after m' c Cert.SampleReferenceIdeal.main_v127 = gateRows m c := by
  have e : ∀ (i : Fin 128) (j : Fin 2048),
      Cert.SampleReferenceIdeal.Value.after m' c Cert.SampleReferenceIdeal.main_v127 (ix2 i j) = gateEntry m c i j := fun i j => by
    rw [Cert.SampleReferenceIdeal.Value.gate_at]
    unfold gateEntry
    rw [cols_same m m' c h]
  funext y
  have hy : y = ix2 (y 0 : Fin 128) (y 1 : Fin 2048) := by
    funext a
    match a with
    | ⟨0, _⟩ => rfl
    | ⟨1, _⟩ => rfl
  rw [hy]
  exact e (y 0) (y 1)

/-- The plain projection's recurrent columns are the kernel's. -/
theorem rec_same (h : Inputs m m' c) :
    Cert.SampleReferenceIdeal.Value.after m' c Cert.SampleReferenceIdeal.main_v130 = recRows m c := by
  have e : ∀ (i : Fin 128) (j : Fin 1792),
      Cert.SampleReferenceIdeal.Value.after m' c Cert.SampleReferenceIdeal.main_v130 (ix2 i j) = recEntry m c i j := fun i j => by
    rw [Cert.SampleReferenceIdeal.Value.rec_at]
    unfold recEntry
    rw [cols_same m m' c h]
  funext y
  have hy : y = ix2 (y 0 : Fin 128) (y 1 : Fin 1792) := by
    funext a
    match a with
    | ⟨0, _⟩ => rfl
    | ⟨1, _⟩ => rfl
  rw [hy]
  exact e (y 0) (y 1)

/-- The plain projection's queries are the kernel's. -/
theorem query_same (h : Inputs m m' c)
    (h₃ : ∀ a, m' (c, Proc.tc.devRef Cert.SampleReferenceIdeal.main_arg3) a = m ((c : Thread nD τ).loc main_arg3) a)
    (h₄ : ∀ a, m' (c, Proc.tc.devRef Cert.SampleReferenceIdeal.main_arg4) a = m ((c : Thread nD τ).loc main_arg4) a) :
    Cert.SampleReferenceIdeal.Value.after m' c Cert.SampleReferenceIdeal.main_v128 = queryRows m c := by
  have e : ∀ (i : Fin 128) (j : Fin 1024),
      Cert.SampleReferenceIdeal.Value.after m' c Cert.SampleReferenceIdeal.main_v128 (ix2 i j) = queryEntry m c i j := fun i j => by
    rw [Cert.SampleReferenceIdeal.Value.query_at]
    unfold queryEntry
    simp only [cols_same m m' c h, lowRank_same m m' c h h₃, Cert.SampleReferenceIdeal.Value.arg, h₄]
  funext y
  have hy : y = ix2 (y 0 : Fin 128) (y 1 : Fin 1024) := by
    funext a
    match a with
    | ⟨0, _⟩ => rfl
    | ⟨1, _⟩ => rfl
  rw [hy]
  exact e (y 0) (y 1)

/-- The plain projection's cache rows are the kernel's. -/
theorem cache_same (h : Inputs m m' c)
    (h₅ : ∀ a, m' (c, Proc.tc.devRef Cert.SampleReferenceIdeal.main_arg5) a = m ((c : Thread nD τ).loc main_arg5) a) :
    Cert.SampleReferenceIdeal.Value.after m' c Cert.SampleReferenceIdeal.main_v129 = cacheRows m c := by
  have e : ∀ (i : Fin 128) (j : Fin 288),
      Cert.SampleReferenceIdeal.Value.after m' c Cert.SampleReferenceIdeal.main_v129 (ix2 i j) = cacheEntry m c i j := fun i j => by
    rw [Cert.SampleReferenceIdeal.Value.cache_at]
    unfold cacheEntry
    simp only [cols_same m m' c h, latent_same m m' c h h₅]
  funext y
  have hy : y = ix2 (y 0 : Fin 128) (y 1 : Fin 288) := by
    funext a
    match a with
    | ⟨0, _⟩ => rfl
    | ⟨1, _⟩ => rfl
  rw [hy]
  exact e (y 0) (y 1)

end Cert.SampleIdeal.Value

end
-- ==== Proof.lean ====
/- The certificate: each program's frame from its generated run, each pair's equality from its result arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleReferenceIdeal
public import proofs.«01_k».proof.Proof.Gen.KernelIdeal.Value
public import proofs.«01_k».proof.Proof.Gen.FfnIdeal.Value
public import proofs.«01_k».proof.Proof.Gen.MergeIdeal.Value
public import proofs.«01_k».proof.Proof.Gen.ProjIdeal.Value
public import proofs.«01_k».proof.Proof.Gen.SampleIdeal.Value
public import proofs.«01_k».proof.Proof.Gen.ReferenceIdeal.Run
public import proofs.«01_k».proof.Proof.Gen.FfnReferenceIdeal.Run
public import proofs.«01_k».proof.Proof.Gen.MergeReferenceIdeal.Run
public import proofs.«01_k».proof.Proof.Gen.ProjReferenceIdeal.Run
public import proofs.«01_k».proof.Proof.Gen.SampleReferenceIdeal.Run
public import proofs.«01_k».proof.Proof.Attn.Value
public import proofs.«01_k».proof.Proof.Ffn.Value
public import proofs.«01_k».proof.Proof.Merge.Value
public import proofs.«01_k».proof.Proof.Proj.Value
public import proofs.«01_k».proof.Proof.Sample.Value
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The two named constants stand for `1/√96` and `-∞`. -/
theorem preserves : Cert.preserves_Kernel_KernelIdeal := by
  exact ⟨IdealRules.named_const.statement _ _ _ _ _ rfl, IdealRules.named_const.statement _ _ _ _ _ rfl⟩

/-- The attention kernel and the reference end with the same array. -/
theorem attention : Cert.algebraic_KernelIdeal_ReferenceIdeal := by
  pair_intro
  · run_from Cert.KernelIdeal.Gen.run_main m g
  · run_from Cert.ReferenceIdeal.Value.run m' g'
    obtain ⟨h₀, h₁, h₂, h₃, h₄⟩ := hagree c
    rw [Cert.ReferenceIdeal.Value.res_eq, h₀, h₁, h₂, h₃, h₄]
    exact (Cert.KernelIdeal.Value.final m c).symm

/-- The channel mixer and the reference end with the same array. -/
theorem mixer : Cert.algebraic_FfnIdeal_FfnReferenceIdeal := by
  pair_intro
  · run_from Cert.FfnIdeal.Gen.run_main m g
  · run_from Cert.FfnReferenceIdeal.Value.run m' g'
    exact (Cert.FfnIdeal.Value.final m c).symm

/-- The branch merge and the reference end with the same two arrays. -/
theorem branches : Cert.algebraic_MergeIdeal_MergeReferenceIdeal := by
  pair_intro
  · run_from Cert.MergeIdeal.Gen.run_main m g
  · run_from Cert.MergeReferenceIdeal.Value.run m' g'
    · exact (Cert.MergeIdeal.Value.final m c).symm
    · exact (Cert.MergeIdeal.Value.finalNorm m c).symm

/-- The prompt's projections and the reference end with the same six arrays. -/
theorem projections : Cert.algebraic_ProjIdeal_ProjReferenceIdeal := by
  intro m g m' g' hpre hagree
  refine ⟨Cert.ProjIdeal.Value.gateRows m, Cert.ProjIdeal.Value.recRows m, Cert.ProjIdeal.Value.queryRows m,
    Cert.ProjIdeal.Value.cacheRows m, Cert.ProjIdeal.Value.keysRows m, Cert.ProjIdeal.Value.valueRows m,
    Cert.ProjIdeal.Value.run m g, θ_run_mono (Cert.ProjReferenceIdeal.Value.run_after m' g') fun r h c => ?_⟩
  obtain ⟨a₀, a₁, a₂, a₃, a₄, a₅, a₆, a₇⟩ := hagree c
  obtain ⟨b₀, b₁, b₂, b₃, b₄, b₅, hr⟩ := h c
  have hi : Cert.ProjIdeal.Value.Inputs m m' c := ⟨congrFun a₀, congrFun a₁, congrFun a₂⟩
  exact ⟨b₀.trans (Cert.ProjIdeal.Value.gate_same m m' c hi), b₁.trans (Cert.ProjIdeal.Value.rec_same m m' c hi),
    b₂.trans (Cert.ProjIdeal.Value.query_same m m' c hi (congrFun a₃) (congrFun a₄)),
    b₃.trans (Cert.ProjIdeal.Value.cache_same m m' c hi (congrFun a₅)),
    b₄.trans (Cert.ProjIdeal.Value.keys_same m m' c hi (congrFun a₅) (congrFun a₆)),
    b₅.trans (Cert.ProjIdeal.Value.value_same m m' c hi (congrFun a₅) (congrFun a₇)), hr⟩

/-- The sample's projections and the reference end with the same four arrays. -/
theorem sampleProjections : Cert.algebraic_SampleIdeal_SampleReferenceIdeal := by
  intro m g m' g' hpre hagree
  refine ⟨Cert.SampleIdeal.Value.gateRows m, Cert.SampleIdeal.Value.queryRows m, Cert.SampleIdeal.Value.cacheRows m,
    Cert.SampleIdeal.Value.recRows m, Cert.SampleIdeal.Value.run m g,
    θ_run_mono (Cert.SampleReferenceIdeal.Value.run_after m' g') fun r h c => ?_⟩
  obtain ⟨a₀, a₁, a₂, a₃, a₄, a₅, a₆, a₇⟩ := hagree c
  obtain ⟨b₀, b₁, b₂, b₃, hr⟩ := h c
  have hi : Cert.SampleIdeal.Value.Inputs m m' c := ⟨congrFun a₀, congrFun a₁, congrFun a₂⟩
  exact ⟨b₀.trans (Cert.SampleIdeal.Value.gate_same m m' c hi),
    b₁.trans (Cert.SampleIdeal.Value.query_same m m' c hi (congrFun a₃) (congrFun a₄)),
    b₂.trans (Cert.SampleIdeal.Value.cache_same m m' c hi (congrFun a₅)),
    b₃.trans (Cert.SampleIdeal.Value.rec_same m m' c hi), hr⟩

/-- The attention's reference runs and leaves its arguments. -/
theorem attentionReference : Cert.quiescent_ReferenceIdeal := by
  intro m g _
  hlo_run
  exacts [by simp, sem_eq_zero_of_no_sems (sig := Cert.ReferenceIdeal.sig) rfl _]

/-- The channel mixer's reference runs and leaves its arguments. -/
theorem mixerReference : Cert.quiescent_FfnReferenceIdeal := by
  intro m g _
  hlo_run
  exacts [by simp, sem_eq_zero_of_no_sems (sig := Cert.FfnReferenceIdeal.sig) rfl _]

/-- The branch merge's reference runs and leaves its arguments. -/
theorem branchesReference : Cert.quiescent_MergeReferenceIdeal := by
  intro m g _
  hlo_run
  exacts [by simp, sem_eq_zero_of_no_sems (sig := Cert.MergeReferenceIdeal.sig) rfl _]

/-- The prompt's projections' reference runs and leaves its arguments. -/
theorem projectionsReference : Cert.quiescent_ProjReferenceIdeal := by
  intro m g _
  hlo_run
  exacts [by simp, sem_eq_zero_of_no_sems (sig := Cert.ProjReferenceIdeal.sig) rfl _]

/-- The sample's projections' reference runs and leaves its arguments. -/
theorem sampleReference : Cert.quiescent_SampleReferenceIdeal := by
  intro m g _
  hlo_run
  exacts [by simp, sem_eq_zero_of_no_sems (sig := Cert.SampleReferenceIdeal.sig) rfl _]

/-- The certificate. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnReferenceIdeal.Gen.facts,
    Cert.Merge.Gen.facts,
    Cert.MergeIdeal.Gen.facts,
    Cert.MergeReferenceIdeal.Gen.facts,
    Cert.Proj.Gen.facts,
    Cert.ProjIdeal.Gen.facts,
    Cert.ProjReferenceIdeal.Gen.facts,
    Cert.Sample.Gen.facts,
    Cert.SampleIdeal.Gen.facts,
    Cert.SampleReferenceIdeal.Gen.facts,
    fun m ρ _ => Cert.Kernel.Gen.frame m ρ,
    fun m ρ _ => Cert.KernelIdeal.Gen.frame m ρ,
    attentionReference,
    fun m ρ _ => Cert.Ffn.Gen.frame m ρ,
    fun m ρ _ => Cert.FfnIdeal.Gen.frame m ρ,
    mixerReference,
    fun m ρ _ => Cert.Merge.Gen.frame m ρ,
    fun m ρ _ => Cert.MergeIdeal.Gen.frame m ρ,
    branchesReference,
    fun m ρ _ => Cert.Proj.Gen.frame m ρ,
    fun m ρ _ => Cert.ProjIdeal.Gen.frame m ρ,
    projectionsReference,
    fun m ρ _ => Cert.Sample.Gen.frame m ρ,
    fun m ρ _ => Cert.SampleIdeal.Gen.frame m ρ,
    sampleReference,
    preserves, attention, trivial, mixer, trivial, branches, trivial, projections, trivial, sampleProjections⟩

end Cert.Proof

end
